-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4_13) = v0 c
          ∧ r.2.mem ((c.tc : Thread Cert.ReferenceIdeal.nD Cert.ReferenceIdeal.τ).loc Cert.ReferenceIdeal.main_v4_11) = v1 c
          ∧ r.2.mem ((c.tc : Thread Cert.ReferenceIdeal.nD Cert.ReferenceIdeal.τ).loc Cert.ReferenceIdeal.main_v4_12) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x32 : Shape := ⟨2, ![64, 32]⟩
abbrev S32x64x512 : Shape := ⟨3, ![32, 64, 512]⟩
abbrev S2048x512 : Shape := ⟨2, ![2048, 512]⟩
abbrev S2048 : Shape := ⟨1, ![2048]⟩
abbrev S1x2048 : Shape := ⟨2, ![1, 2048]⟩
abbrev S64x512 : Shape := ⟨2, ![64, 512]⟩
abbrev S16x64x512 : Shape := ⟨3, ![16, 64, 512]⟩
abbrev S4096x512 : Shape := ⟨2, ![4096, 512]⟩
abbrev S1x4096 : Shape := ⟨2, ![1, 4096]⟩
abbrev S32x64x1 : Shape := ⟨3, ![32, 64, 1]⟩
abbrev S16x64x2048 : Shape := ⟨3, ![16, 64, 2048]⟩
abbrev S512x512 : Shape := ⟨2, ![512, 512]⟩
abbrev S32x64 : Shape := ⟨2, ![32, 64]⟩
abbrev S1024x512 : Shape := ⟨2, ![1024, 512]⟩
abbrev S1024x4096 : Shape := ⟨2, ![1024, 4096]⟩
abbrev S16x64x4096 : Shape := ⟨3, ![16, 64, 4096]⟩
abbrev S1x64x1 : Shape := ⟨3, ![1, 64, 1]⟩
abbrev S64x1 : Shape := ⟨2, ![64, 1]⟩
abbrev S1x64x4096 : Shape := ⟨3, ![1, 64, 4096]⟩
abbrev S64x4096 : Shape := ⟨2, ![64, 4096]⟩
abbrev S64x2048 : Shape := ⟨2, ![64, 2048]⟩
abbrev S1x64x2048 : Shape := ⟨3, ![1, 64, 2048]⟩
abbrev S1x64x512 : Shape := ⟨3, ![1, 64, 512]⟩

abbrev nBuf : Space → Nat
  | .hbm => 17
  | .vmem => 22
  | .smem => 0
  | _ => 0

abbrev bufTy : (tb : Table) → Fin (tcTables nBuf tb) → BufTy
  | .hbm, ⟨0, _⟩ => ⟨S64x32, .i32⟩
  | .hbm, ⟨1, _⟩ => ⟨S32x64x512, .f32⟩
  | .hbm, ⟨2, _⟩ => ⟨S2048x512, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S2048x512, .f32⟩
  | .hbm, ⟨7, _⟩ => ⟨S2048x512, .f32⟩
  | .hbm, ⟨8, _⟩ => ⟨S2048, .f32⟩
  | .hbm, ⟨9, _⟩ => ⟨S2048, .f32⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S32x64x512, .f32⟩
  | .hbm, ⟨15, _⟩ => ⟨S64x512, .f32⟩
  | .hbm, ⟨16, _⟩ => ⟨S64x512, .f32⟩
  | .local _ .vmem, ⟨0, _⟩ => ⟨S64x32, .i32⟩
  | .local _ .vmem, ⟨1, _⟩ => ⟨S16x64x512, .f32⟩
  | .local _ .vmem, ⟨2, _⟩ => ⟨S16x64x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S1x2048, .f32⟩
  | .local _ .vmem, ⟨11, _⟩ => ⟨S16x64x512, .f32⟩
  | .local _ .vmem, ⟨12, _⟩ => ⟨S16x64x512, .f32⟩
  | .local _ .vmem, ⟨13, _⟩ => ⟨S64x512, .f32⟩
  | .local _ .vmem, ⟨14, _⟩ => ⟨S64x512, .f32⟩
  | .local _ .vmem, ⟨15, _⟩ => ⟨S4096x512, .bf16⟩
  | .local _ .vmem, ⟨16, _⟩ => ⟨S4096x512, .bf16⟩
  | .local _ .vmem, ⟨17, _⟩ => ⟨S1x4096, .f32⟩
  | .local _ .vmem, ⟨18, _⟩ => ⟨S32x64x1, .f32⟩
  | .local _ .vmem, ⟨19, _⟩ => ⟨S16x64x2048, .f32⟩
  | .local _ .vmem, ⟨20, _⟩ => ⟨S64x512, .f32⟩
  | .local _ .vmem, ⟨21, _⟩ => ⟨S64x512, .f32⟩
  | _, _ => ⟨S64x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg12_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem12_0 : DmaSem sig := 14

abbrev nD : Nat := 1
abbrev τ : Topo := Topo.v7x

variable {F : FTy → Type} [FloatOps F]

abbrev grid0 : Pipeline.Grid := ⟨1, ![2], ![false]⟩

def k0_off1 (i : grid0.Coords) (c0_i32_7 : BitVec 32) : Fin 3 → Nat :=
  let arg0 : BitVec 32 := BitVec.ofNat 32 (i 0).val
  let c16_i32 : BitVec 32 := 16#32
  let v12 : BitVec 32 := Scalar.muli arg0 c16_i32
  let v13 : BitVec 32 := Scalar.addi v12 c0_i32_7
  let v14 : Index := Scalar.indexCast v13
  let c0_8 : Index := 0#32
  let c0_9 : Index := 0#32
  ![v14.toNat, 0, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x32 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S16x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S64x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S64x32 : Shape := ⟨2, ![64, 32]⟩
abbrev S32x64x512 : Shape := ⟨3, ![32, 64, 512]⟩
abbrev S2048x512 : Shape := ⟨2, ![2048, 512]⟩
abbrev S2048 : Shape := ⟨1, ![2048]⟩
abbrev S_ : Shape := ⟨0, ![]⟩
abbrev S64x512 : Shape := ⟨2, ![64, 512]⟩
abbrev S32x64 : Shape := ⟨2, ![32, 64]⟩
abbrev S1x64 : Shape := ⟨2, ![1, 64]⟩
abbrev S64 : Shape := ⟨1, ![64]⟩
abbrev S1x64x512 : Shape := ⟨3, ![1, 64, 512]⟩
abbrev S512x2048 : Shape := ⟨2, ![512, 2048]⟩
abbrev S64x2048 : Shape := ⟨2, ![64, 2048]⟩
abbrev S1x2048 : Shape := ⟨2, ![1, 2048]⟩
abbrev S64x1 : Shape := ⟨2, ![64, 1]⟩

abbrev nBuf : Space → Nat
  | .hbm => 167
  | .vmem => 0
  | .smem => 0
  | _ => 0

abbrev hbmTy0_0 (i : Nat) : BufTy := match i % 128 with
  | 0 => ⟨S64x32, .i32⟩
  | 1 => ⟨S32x64x512, .f32⟩
  | 2 => ⟨S2048x512, .f32⟩
  | 3 => ⟨S2048x512, .f32⟩
  | 4 => ⟨S2048, .f32⟩
  | 5 => ⟨S2048, .f32⟩
  | 6 => ⟨S2048x512, .f32⟩
  | 7 => ⟨S2048x512, .f32⟩
  | 8 => ⟨S2048, .f32⟩
  | 9 => ⟨S2048, .f32⟩
  | 10 => ⟨S_, .f32⟩
  | 11 => ⟨S64x512, .f32⟩
  | 12 => ⟨S_, .f32⟩
  | 13 => ⟨S64x512, .f32⟩
  | 14 => ⟨S32x64, .i32⟩
  | 15 => ⟨S_, .f32⟩
  | 16 => ⟨S32x64x512, .f32⟩
  | 17 => ⟨S_, .i32⟩
  | 18 => ⟨S32x64, .i32⟩
  | 19 => ⟨S32x64x512, .f32⟩
  | 20 => ⟨S2048x512, .f32⟩
  | 21 => ⟨S2048, .f32⟩
  | 22 => ⟨S2048x512, .f32⟩
  | 23 => ⟨S2048, .f32⟩
  | 24 => ⟨S2048x512, .f32⟩
  | 25 => ⟨S2048, .f32⟩
  | 26 => ⟨S2048x512, .f32⟩
  | 27 => ⟨S2048, .f32⟩
  | 28 => ⟨S_, .i32⟩
  | 29 => ⟨S64x512, .f32⟩
  | 30 => ⟨S64x512, .f32⟩
  | 31 => ⟨S32x64x512, .f32⟩
  | 32 => ⟨S_, .i32⟩
  | 33 => ⟨S_, .i1⟩
  | 34 => ⟨S_, .i32⟩
  | 35 => ⟨S1x64, .i32⟩
  | 36 => ⟨S64, .i32⟩
  | 37 => ⟨S_, .i32⟩
  | 38 => ⟨S_, .i32⟩
  | 39 => ⟨S1x64x512, .f32⟩
  | 40 => ⟨S64x512, .f32⟩
  | 41 => ⟨S512x2048, .f32⟩
  | 42 => ⟨S64x2048, .f32⟩
  | 43 => ⟨S1x2048, .f32⟩
  | 44 => ⟨S64x2048, .f32⟩
  | 45 => ⟨S64x2048, .f32⟩
  | 46 => ⟨S512x2048, .f32⟩
  | 47 => ⟨S64x2048, .f32⟩
  | 48 => ⟨S64x2048, .f32⟩
  | 49 => ⟨S1x2048, .f32⟩
  | 50 => ⟨S64x2048, .f32⟩
  | 51 => ⟨S64x2048, .f32⟩
  | 52 => ⟨S64x512, .f32⟩
  | 53 => ⟨S64x512, .f32⟩
  | 54 => ⟨S64x512, .f32⟩
  | 55 => ⟨S64x512, .f32⟩
  | 56 => ⟨S64x512, .f32⟩
  | 57 => ⟨S64x512, .f32⟩
  | 58 => ⟨S_, .f32⟩
  | 59 => ⟨S64x512, .f32⟩
  | 60 => ⟨S64x512, .f32⟩
  | 61 => ⟨S_, .f32⟩
  | 62 => ⟨S64x512, .f32⟩
  | 63 => ⟨S64x512, .f32⟩
  | 64 => ⟨S64x512, .f32⟩
  | 65 => ⟨S64x512, .f32⟩
  | 66 => ⟨S_, .f32⟩
  | 67 => ⟨S64x512, .f32⟩
  | 68 => ⟨S64x512, .f32⟩
  | 69 => ⟨S_, .f32⟩
  | 70 => ⟨S64x512, .f32⟩
  | 71 => ⟨S64x512, .f32⟩
  | 72 => ⟨S64x512, .f32⟩
  | 73 => ⟨S64x512, .f32⟩
  | 74 => ⟨S64x512, .f32⟩
  | 75 => ⟨S_, .f32⟩
  | 76 => ⟨S64x512, .f32⟩
  | 77 => ⟨S64x512, .f32⟩
  | 78 => ⟨S_, .f32⟩
  | 79 => ⟨S64x512, .f32⟩
  | 80 => ⟨S64x512, .f32⟩
  | 81 => ⟨S64x512, .f32⟩
  | 82 => ⟨S64x512, .f32⟩
  | 83 => ⟨S64x512, .f32⟩
  | 84 => ⟨S64x512, .f32⟩
  | 85 => ⟨S64x512, .f32⟩
  | 86 => ⟨S512x2048, .f32⟩
  | 87 => ⟨S64x2048, .f32⟩
  | 88 => ⟨S1x2048, .f32⟩
  | 89 => ⟨S64x2048, .f32⟩
  | 90 => ⟨S64x2048, .f32⟩
  | 91 => ⟨S512x2048, .f32⟩
  | 92 => ⟨S64x2048, .f32⟩
  | 93 => ⟨S64x2048, .f32⟩
  | 94 => ⟨S1x2048, .f32⟩
  | 95 => ⟨S64x2048, .f32⟩
  | 96 => ⟨S64x2048, .f32⟩
  | 97 => ⟨S64x512, .f32⟩
  | 98 => ⟨S64x512, .f32⟩
  | 99 => ⟨S64x512, .f32⟩
  | 100 => ⟨S64x512, .f32⟩
  | 101 => ⟨S64x512, .f32⟩
  | 102 => ⟨S64x512, .f32⟩
  | 103 => ⟨S_, .f32⟩
  | 104 => ⟨S64x512, .f32⟩
  | 105 => ⟨S64x512, .f32⟩
  | 106 => ⟨S_, .f32⟩
  | 107 => ⟨S64x512, .f32⟩
  | 108 => ⟨S64x512, .f32⟩
  | 109 => ⟨S64x512, .f32⟩
  | 110 => ⟨S64x512, .f32⟩
  | 111 => ⟨S_, .f32⟩
  | 112 => ⟨S64x512, .f32⟩
  | 113 => ⟨S64x512, .f32⟩
  | 114 => ⟨S_, .f32⟩
  | 115 => ⟨S64x512, .f32⟩
  | 116 => ⟨S64x512, .f32⟩
  | 117 => ⟨S64x512, .f32⟩
  | 118 => ⟨S64x512, .f32⟩
  | 119 => ⟨S64x512, .f32⟩
  | 120 => ⟨S_, .f32⟩
  | 121 => ⟨S64x512, .f32⟩
  | 122 => ⟨S64x512, .f32⟩
  | 123 => ⟨S_, .f32⟩
  | 124 => ⟨S64x512, .f32⟩
  | 125 => ⟨S64x512, .f32⟩
  | 126 => ⟨S64x512, .f32⟩
  | 127 => ⟨S64x512, .f32⟩
  | _ => ⟨S64x32, .i32⟩

abbrev hbmTy0_1 (i : Nat) : BufTy := match i % 128 with
  | 0 => ⟨S64x512, .f32⟩
  | 1 => ⟨S64x512, .f32⟩
  | 2 => ⟨S64x512, .f32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S64, .i32⟩
  | 10 => ⟨S64, .i32⟩
  | 11 => ⟨S_, .i32⟩
  | 12 => ⟨S64, .i32⟩
  | 13 => ⟨S64, .i1⟩
  | 14 => ⟨S_, .i32⟩
  | 15 => ⟨S64, .i32⟩
  | 16 => ⟨S64, .i1⟩
  | 17 => ⟨S_, .i32⟩
  | 18 => ⟨S_, .i1⟩
  | 19 => ⟨S64, .i1⟩
  | 20 => ⟨S64, .i1⟩
  | 21 => ⟨S64, .i1⟩
  | 22 => ⟨S64, .i32⟩
  | 23 => ⟨S64, .i32⟩
  | 24 => ⟨S64, .i32⟩
  | 25 => ⟨S_, .i32⟩
  | 26 => ⟨S64, .i32⟩
  | 27 => ⟨S64, .i1⟩
  | 28 => ⟨S64x1, .i1⟩
  | 29 => ⟨S64x512, .i1⟩
  | 30 => ⟨S64x512, .f32⟩
  | 31 => ⟨S64x512, .i1⟩
  | 32 => ⟨S64x512, .f32⟩
  | 33 => ⟨S1x64x512, .f32⟩
  | 34 => ⟨S_, .i32⟩
  | 35 => ⟨S_, .i32⟩
  | 36 => ⟨S32x64x512, .f32⟩
  | 37 => ⟨S_, .i32⟩
  | 38 => ⟨S_, .i32⟩
  | _ => ⟨S64x32, .i32⟩

abbrev hbmTy (i : Nat) : BufTy := match i / 128 with
  | 0 => hbmTy0_0 i
  | 1 => hbmTy0_1 i
  | _ => ⟨S64x32, .i32⟩

abbrev bufTy : (tb : Table) → Fin (tcTables nBuf tb) → BufTy
  | .hbm, ⟨i, _⟩ => hbmTy i
  | _, _ => ⟨S64x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_cst_1 : Ref sig .tc := ⟨.hbm, 15, rfl⟩
abbrev main_v3 : Ref sig .tc := ⟨.hbm, 16, rfl⟩
abbrev main_c : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev main_v4_3 : Ref sig .tc := ⟨.hbm, 21, rfl⟩
abbrev main_v4_4 : Ref sig .tc := ⟨.hbm, 22, rfl⟩
abbrev main_v4_5 : Ref sig .tc := ⟨.hbm, 23, rfl⟩
abbrev main_v4_6 : Ref sig .tc := ⟨.hbm, 24, rfl⟩
abbrev main_v4_7 : Ref sig .tc := ⟨.hbm, 25, rfl⟩
abbrev main_v4_8 : Ref sig .tc := ⟨.hbm, 26, rfl⟩
abbrev main_v4_9 : Ref sig .tc := ⟨.hbm, 27, rfl⟩
abbrev main_v4_10 : Ref sig .tc := ⟨.hbm, 28, rfl⟩
abbrev main_v4_11 : Ref sig .tc := ⟨.hbm, 29, rfl⟩
abbrev main_v4_12 : Ref sig .tc := ⟨.hbm, 30, rfl⟩
abbrev main_v4_13 : Ref sig .tc := ⟨.hbm, 31, rfl⟩
abbrev main_while0c_c_15 : Ref sig .tc := ⟨.hbm, 32, rfl⟩
abbrev main_while0c_v5 : Ref sig .tc := ⟨.hbm, 33, rfl⟩
abbrev main_while0b_call0_c : Ref sig .tc := ⟨.hbm, 34, rfl⟩
abbrev main_while0b_call0_v0 : Ref sig .tc := ⟨.hbm, 35, rfl⟩
abbrev main_while0b_v5 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_v0 : Ref sig .tc := ⟨.hbm, 39, rfl⟩
abbrev main_while0b_v6 : Ref sig .tc := ⟨.hbm, 40, rfl⟩
abbrev main_while0b_v7 : Ref sig .tc := ⟨.hbm, 41, rfl⟩
abbrev main_while0b_v8 : Ref sig .tc := ⟨.hbm, 42, rfl⟩
abbrev main_while0b_v9 : Ref sig .tc := ⟨.hbm, 43, rfl⟩
abbrev main_while0b_v10 : Ref sig .tc := ⟨.hbm, 44, rfl⟩
abbrev main_while0b_v11 : Ref sig .tc := ⟨.hbm, 45, rfl⟩
abbrev main_while0b_v12 : Ref sig .tc := ⟨.hbm, 46, rfl⟩
abbrev main_while0b_v13 : Ref sig .tc := ⟨.hbm, 47, rfl⟩
abbrev main_while0b_v14 : Ref sig .tc := ⟨.hbm, 48, rfl⟩
abbrev main_while0b_v15 : Ref sig .tc := ⟨.hbm, 49, rfl⟩
abbrev main_while0b_v16 : Ref sig .tc := ⟨.hbm, 50, rfl⟩
abbrev main_while0b_v17 : Ref sig .tc := ⟨.hbm, 51, rfl⟩
abbrev main_while0b_v18 : Ref sig .tc := ⟨.hbm, 52, rfl⟩
abbrev main_while0b_v19 : Ref sig .tc := ⟨.hbm, 53, rfl⟩
abbrev main_while0b_v20 : Ref sig .tc := ⟨.hbm, 54, rfl⟩
abbrev main_while0b_v21 : Ref sig .tc := ⟨.hbm, 55, rfl⟩
abbrev main_while0b_v22 : Ref sig .tc := ⟨.hbm, 56, rfl⟩
abbrev main_while0b_v23 : Ref sig .tc := ⟨.hbm, 57, rfl⟩
abbrev main_while0b_cst_15 : Ref sig .tc := ⟨.hbm, 58, rfl⟩
abbrev main_while0b_v24 : Ref sig .tc := ⟨.hbm, 59, rfl⟩
abbrev main_while0b_v25 : Ref sig .tc := ⟨.hbm, 60, rfl⟩
abbrev main_while0b_cst_16 : Ref sig .tc := ⟨.hbm, 61, rfl⟩
abbrev main_while0b_v26 : Ref sig .tc := ⟨.hbm, 62, rfl⟩
abbrev main_while0b_v27 : Ref sig .tc := ⟨.hbm, 63, rfl⟩
abbrev main_while0b_v28 : Ref sig .tc := ⟨.hbm, 64, rfl⟩
abbrev main_while0b_v29 : Ref sig .tc := ⟨.hbm, 65, rfl⟩
abbrev main_while0b_cst_17 : Ref sig .tc := ⟨.hbm, 66, rfl⟩
abbrev main_while0b_v30 : Ref sig .tc := ⟨.hbm, 67, rfl⟩
abbrev main_while0b_v31 : Ref sig .tc := ⟨.hbm, 68, rfl⟩
abbrev main_while0b_cst_18 : Ref sig .tc := ⟨.hbm, 69, rfl⟩
abbrev main_while0b_v32 : Ref sig .tc := ⟨.hbm, 70, rfl⟩
abbrev main_while0b_v33 : Ref sig .tc := ⟨.hbm, 71, rfl⟩
abbrev main_while0b_v34 : Ref sig .tc := ⟨.hbm, 72, rfl⟩
abbrev main_while0b_v35 : Ref sig .tc := ⟨.hbm, 73, rfl⟩
abbrev main_while0b_v36 : Ref sig .tc := ⟨.hbm, 74, rfl⟩
abbrev main_while0b_cst_19 : Ref sig .tc := ⟨.hbm, 75, rfl⟩
abbrev main_while0b_v37 : Ref sig .tc := ⟨.hbm, 76, rfl⟩
abbrev main_while0b_v38 : Ref sig .tc := ⟨.hbm, 77, rfl⟩
abbrev main_while0b_cst_20 : Ref sig .tc := ⟨.hbm, 78, rfl⟩
abbrev main_while0b_v39 : Ref sig .tc := ⟨.hbm, 79, rfl⟩
abbrev main_while0b_v40 : Ref sig .tc := ⟨.hbm, 80, rfl⟩
abbrev main_while0b_v41 : Ref sig .tc := ⟨.hbm, 81, rfl⟩
abbrev main_while0b_v42 : Ref sig .tc := ⟨.hbm, 82, rfl⟩
abbrev main_while0b_v43 : Ref sig .tc := ⟨.hbm, 83, rfl⟩
abbrev main_while0b_v44 : Ref sig .tc := ⟨.hbm, 84, rfl⟩
abbrev main_while0b_v45 : Ref sig .tc := ⟨.hbm, 85, rfl⟩
abbrev main_while0b_v46 : Ref sig .tc := ⟨.hbm, 86, rfl⟩
abbrev main_while0b_v47 : Ref sig .tc := ⟨.hbm, 87, rfl⟩
abbrev main_while0b_v48 : Ref sig .tc := ⟨.hbm, 88, rfl⟩
abbrev main_while0b_v49 : Ref sig .tc := ⟨.hbm, 89, rfl⟩
abbrev main_while0b_v50 : Ref sig .tc := ⟨.hbm, 90, rfl⟩
abbrev main_while0b_v51 : Ref sig .tc := ⟨.hbm, 91, rfl⟩
abbrev main_while0b_v52 : Ref sig .tc := ⟨.hbm, 92, rfl⟩
abbrev main_while0b_v53 : Ref sig .tc := ⟨.hbm, 93, rfl⟩
abbrev main_while0b_v54 : Ref sig .tc := ⟨.hbm, 94, rfl⟩
abbrev main_while0b_v55 : Ref sig .tc := ⟨.hbm, 95, rfl⟩
abbrev main_while0b_v56 : Ref sig .tc := ⟨.hbm, 96, rfl⟩
abbrev main_while0b_v57 : Ref sig .tc := ⟨.hbm, 97, rfl⟩
abbrev main_while0b_v58 : Ref sig .tc := ⟨.hbm, 98, rfl⟩
abbrev main_while0b_v59 : Ref sig .tc := ⟨.hbm, 99, rfl⟩
abbrev main_while0b_v60 : Ref sig .tc := ⟨.hbm, 100, rfl⟩
abbrev main_while0b_v61 : Ref sig .tc := ⟨.hbm, 101, rfl⟩
abbrev main_while0b_v62 : Ref sig .tc := ⟨.hbm, 102, rfl⟩
abbrev main_while0b_cst_21 : Ref sig .tc := ⟨.hbm, 103, rfl⟩
abbrev main_while0b_v63 : Ref sig .tc := ⟨.hbm, 104, rfl⟩
abbrev main_while0b_v64 : Ref sig .tc := ⟨.hbm, 105, rfl⟩
abbrev main_while0b_cst_22 : Ref sig .tc := ⟨.hbm, 106, rfl⟩
abbrev main_while0b_v65 : Ref sig .tc := ⟨.hbm, 107, rfl⟩
abbrev main_while0b_v66 : Ref sig .tc := ⟨.hbm, 108, rfl⟩
abbrev main_while0b_v67 : Ref sig .tc := ⟨.hbm, 109, rfl⟩
abbrev main_while0b_v68 : Ref sig .tc := ⟨.hbm, 110, rfl⟩
abbrev main_while0b_cst_23 : Ref sig .tc := ⟨.hbm, 111, rfl⟩
abbrev main_while0b_v69 : Ref sig .tc := ⟨.hbm, 112, rfl⟩
abbrev main_while0b_v70 : Ref sig .tc := ⟨.hbm, 113, rfl⟩
abbrev main_while0b_cst_24 : Ref sig .tc := ⟨.hbm, 114, rfl⟩
abbrev main_while0b_v71 : Ref sig .tc := ⟨.hbm, 115, rfl⟩
abbrev main_while0b_v72 : Ref sig .tc := ⟨.hbm, 116, rfl⟩
abbrev main_while0b_v73 : Ref sig .tc := ⟨.hbm, 117, rfl⟩
abbrev main_while0b_v74 : Ref sig .tc := ⟨.hbm, 118, rfl⟩
abbrev main_while0b_v75 : Ref sig .tc := ⟨.hbm, 119, rfl⟩
abbrev main_while0b_cst_25 : Ref sig .tc := ⟨.hbm, 120, rfl⟩
abbrev main_while0b_v76 : Ref sig .tc := ⟨.hbm, 121, rfl⟩
abbrev main_while0b_v77 : Ref sig .tc := ⟨.hbm, 122, rfl⟩
abbrev main_while0b_cst_26 : Ref sig .tc := ⟨.hbm, 123, rfl⟩
abbrev main_while0b_v78 : Ref sig .tc := ⟨.hbm, 124, rfl⟩
abbrev main_while0b_v79 : Ref sig .tc := ⟨.hbm, 125, rfl⟩
abbrev main_while0b_v80 : Ref sig .tc := ⟨.hbm, 126, rfl⟩
abbrev main_while0b_v81 : Ref sig .tc := ⟨.hbm, 127, rfl⟩
abbrev main_while0b_v82 : Ref sig .tc := ⟨.hbm, 128, rfl⟩
abbrev main_while0b_v83 : Ref sig .tc := ⟨.hbm, 129, rfl⟩
abbrev main_while0b_v84 : Ref sig .tc := ⟨.hbm, 130, rfl⟩
abbrev main_while0b_c_27 : Ref sig .tc := ⟨.hbm, 131, rfl⟩
abbrev main_while0b_c_28 : Ref sig .tc := ⟨.hbm, 132, rfl⟩
abbrev main_while0b_v85 : Ref sig .tc := ⟨.hbm, 133, rfl⟩
abbrev main_while0b_c_29 : Ref sig .tc := ⟨.hbm, 134, rfl⟩
abbrev main_while0b_c_30 : Ref sig .tc := ⟨.hbm, 135, rfl⟩
abbrev main_while0b_v86 : Ref sig .tc := ⟨.hbm, 136, rfl⟩
abbrev main_while0b_v87 : Ref sig .tc := ⟨.hbm, 137, rfl⟩
abbrev main_while0b_v88 : Ref sig .tc := ⟨.hbm, 138, rfl⟩
abbrev main_while0b_c_31 : Ref sig .tc := ⟨.hbm, 139, rfl⟩
abbrev main_while0b_v89 : Ref sig .tc := ⟨.hbm, 140, rfl⟩
abbrev main_while0b_v90 : Ref sig .tc := ⟨.hbm, 141, rfl⟩
abbrev main_while0b_c_32 : Ref sig .tc := ⟨.hbm, 142, rfl⟩
abbrev main_while0b_v91 : Ref sig .tc := ⟨.hbm, 143, rfl⟩
abbrev main_while0b_v92 : Ref sig .tc := ⟨.hbm, 144, rfl⟩
abbrev main_while0b_c_33 : Ref sig .tc := ⟨.hbm, 145, rfl⟩
abbrev main_while0b_v93 : Ref sig .tc := ⟨.hbm, 146, rfl⟩
abbrev main_while0b_v94 : Ref sig .tc := ⟨.hbm, 147, rfl⟩
abbrev main_while0b_v95 : Ref sig .tc := ⟨.hbm, 148, rfl⟩
abbrev main_while0b_v96 : Ref sig .tc := ⟨.hbm, 149, rfl⟩
abbrev main_while0b_v97 : Ref sig .tc := ⟨.hbm, 150, rfl⟩
abbrev main_while0b_v98 : Ref sig .tc := ⟨.hbm, 151, rfl⟩
abbrev main_while0b_v99 : Ref sig .tc := ⟨.hbm, 152, rfl⟩
abbrev main_while0b_c_34 : Ref sig .tc := ⟨.hbm, 153, rfl⟩
abbrev main_while0b_v100 : Ref sig .tc := ⟨.hbm, 154, rfl⟩
abbrev main_while0b_v101 : Ref sig .tc := ⟨.hbm, 155, rfl⟩
abbrev main_while0b_v102 : Ref sig .tc := ⟨.hbm, 156, rfl⟩
abbrev main_while0b_call2_v0 : Ref sig .tc := ⟨.hbm, 157, rfl⟩
abbrev main_while0b_v103 : Ref sig .tc := ⟨.hbm, 158, rfl⟩
abbrev main_while0b_call3_v0 : Ref sig .tc := ⟨.hbm, 159, rfl⟩
abbrev main_while0b_v104 : Ref sig .tc := ⟨.hbm, 160, rfl⟩
abbrev main_while0b_call4_v0 : Ref sig .tc := ⟨.hbm, 161, rfl⟩
abbrev main_while0b_call4_c : Ref sig .tc := ⟨.hbm, 162, rfl⟩
abbrev main_while0b_call4_c_0 : Ref sig .tc := ⟨.hbm, 163, rfl⟩
abbrev main_while0b_v105 : Ref sig .tc := ⟨.hbm, 164, rfl⟩
abbrev main_while0b_c_35 : Ref sig .tc := ⟨.hbm, 165, rfl⟩
abbrev main_while0b_v106 : Ref sig .tc := ⟨.hbm, 166, rfl⟩

abbrev nD : Nat := 1
abbrev τ : Topo := Topo.v7x

variable {F : FTy → Type} [FloatOps F]

abbrev main_while0_count : Scf.Loop 32 := ⟨0#32, 32#32, 1#32⟩
-- ==== Proof.Chain.lean ====
module

public import proofs.«01_k».proof.Proof.Gen.KernelIdeal.Value
public import Idealize.ShloMosaic.Lib.Pipeline.ValueKit

@[expose] public section

/-! # One grid point of the kernel as a recursion

A grid point runs sixteen time steps. The printed body spells each of them out; here the step is stated once,
as a function of the hidden and cell state, and the sixteen steps are that function iterated. -/

set_option maxRecDepth 16384

noncomputable section

namespace Cert.Lstm

open Idealize.ShloMosaic Idealize.ShloMosaic.TcCoe
open Cert.KernelIdeal Cert.KernelIdeal.Gen

variable {F : FTy → Type} [FloatOps F]

/-- The cell state after one step: `W1` holds the recurrent rows of the input and candidate gates of both cells,
    `W2` those of the forget and output gates, `m` the row of the mask, `x` the selected input part of the gates. -/
def stepC (W1 W2 : Vec F S2048x512 .bf16) (m : Vec F S1x64x1 .f32) (x : Vec F S1x64x2048 .f32) (h c : Vec F S64x512 .f32) :
    FVec F S64x512 .f32 :=
  k0_pay90 c (k0_pay85 h W2) (k0_pay86 m) (k0_pay87 x) (k0_pay88 h W1 m x) (k0_pay89 h W1 m x)

/-- The hidden state after one step. -/
def stepH (W1 W2 : Vec F S2048x512 .bf16) (m : Vec F S1x64x1 .f32) (x : Vec F S1x64x2048 .f32) (h c : Vec F S64x512 .f32) :
    FVec F S64x512 .f32 :=
  k0_pay91 c (k0_pay85 h W2) (k0_pay86 m) (k0_pay87 x) (k0_pay88 h W1 m x) (k0_pay89 h W1 m x)

/-- A step number as a row of the sixteen rows of a point. -/
def row (k : ℕ) : Fin 16 := ⟨k % 16, Nat.mod_lt _ (by decide)⟩

/-- The hidden and cell state after `n` steps. -/
def states (W1 W2 : Vec F S2048x512 .bf16) (m : Fin 16 → Vec F S1x64x1 .f32) (x : Fin 16 → Vec F S1x64x2048 .f32)
    (h c : Vec F S64x512 .f32) (n : ℕ) : FVec F S64x512 .f32 × FVec F S64x512 .f32 :=
  Nat.rec (h, c) (fun k s => (stepH W1 W2 (m (row k)) (x (row k)) s.1 s.2, stepC W1 W2 (m (row k)) (x (row k)) s.1 s.2)) n

/-- Row `k` of the projections lies inside them. -/
theorem slices_row (k : Fin 16) : S16x64x4096.Slices ![k.val, 0, 0] S1x64x4096 :=
  (by decide +kernel : ∀ k : Fin 16, S16x64x4096.Slices ![k.val, 0, 0] S1x64x4096) k

/-- Row `k` of the projected input, the gates of the cell the mask names. -/
def pick (k : Fin 16) (xg : FVec F S16x64x4096 .f32) (m : Vec F S1x64x1 .f32) : FVec F S1x64x2048 .f32 :=
  let r : FVec F S64x4096 .f32 :=
    shapeCast S64x4096 (extractStridedSlice S1x64x4096 ![k.val, 0, 0] xg (slices_row k)) shapeCasts_S1x64x4096_S64x4096
  let b : IVec S64x512 1 := broadcastTo S64x512 (shapeCast S64x1 (k0_pay22 m) shapeCasts_S64x1_S64x1) broadcasts_S64x1_S64x512
  let v0 : FVec F S64x512 .f32 := select b (extractStridedSlice S64x512 ![0, 2048] r slices_S64x4096_o0_2048_S64x512)
    (extractStridedSlice S64x512 ![0, 0] r slices_S64x4096_o0_0_S64x512)
  let v1 : FVec F S64x512 .f32 := select b (extractStridedSlice S64x512 ![0, 2560] r slices_S64x4096_o0_2560_S64x512)
    (extractStridedSlice S64x512 ![0, 512] r slices_S64x4096_o0_512_S64x512)
  let v2 : FVec F S64x512 .f32 := select b (extractStridedSlice S64x512 ![0, 3072] r slices_S64x4096_o0_3072_S64x512)
    (extractStridedSlice S64x512 ![0, 1024] r slices_S64x4096_o0_1024_S64x512)
  let v3 : FVec F S64x512 .f32 := select b (extractStridedSlice S64x512 ![0, 3584] r slices_S64x4096_o0_3584_S64x512)
    (extractStridedSlice S64x512 ![0, 1536] r slices_S64x4096_o0_1536_S64x512)
  shapeCast S1x64x2048 (concatenate S64x2048 1 [⟨S64x512, v0⟩, ⟨S64x512, v1⟩, ⟨S64x512, v2⟩, ⟨S64x512, v3⟩]
    concatenates_S64x512_S64x512_S64x512_S64x512_S64x2048_d1) shapeCasts_S64x2048_S1x64x2048

/-- Sixteen pieces, the last first: how the body's sixteen stores into a buffer of sixteen rows are listed. -/
def tiles {α : Type} (f : Fin 16 → α) : List α :=
  [f 15, f 14, f 13, f 12, f 11, f 10, f 9, f 8, f 7, f 6, f 5, f 4, f 3, f 2, f 1, f 0]

/-- A list of sixteen tiles holds exactly the tiles of the sixteen rows. -/
theorem mem_tiles {α : Type} (f : Fin 16 → α) (p : α) : p ∈ tiles f ↔ ∃ k, p = f k := by
  constructor
  · intro h
    simp only [tiles, List.mem_cons, List.not_mem_nil, or_false] at h
    rcases h with h | h | h | h | h | h | h | h | h | h | h | h | h | h | h | h <;> exact ⟨_, h⟩
  · rintro ⟨k, rfl⟩
    fin_cases k <;> simp [tiles]

/-- Row `k` of a `16 × 64 × 512` block. -/
def rowOut (k : Fin 16) : Rect S16x64x512 :=
  Rect.unit ![k.val, 0, 0] S1x64x512.size
    ((by decide +kernel : ∀ k : Fin 16, ∀ a, (![k.val, 0, 0] : Fin 3 → ℕ) a + S1x64x512.size a ≤ S16x64x512.size a) k)

/-- Row `k` of a `16 × 64 × 2048` buffer. -/
def rowX (k : Fin 16) : Rect S16x64x2048 :=
  Rect.unit ![k.val, 0, 0] S1x64x2048.size
    ((by decide +kernel : ∀ k : Fin 16, ∀ a, (![k.val, 0, 0] : Fin 3 → ℕ) a + S1x64x2048.size a ≤ S16x64x2048.size a) k)

/-- The mask's row of step `k` at grid point `i`. -/
def rowM (i : grid0.Coords) (k : Fin 16) : Rect S32x64x1 :=
  Rect.unit (k0_off1 i (BitVec.ofNat 32 k.val)) S1x64x1.size (k0_off1_inb i k)

/-- The upper and the lower half of the recurrent rows. -/
def halfW1 : Rect S4096x512 := Rect.unit ![0, 0] S2048x512.size inb_S4096x512_S2048x512_0_0
/-- The second half of the hidden weights, as a rectangle. -/
def halfW2 : Rect S4096x512 := Rect.unit ![2048, 0] S2048x512.size inb_S4096x512_S2048x512_2048_0

/-- The pieces a point stores into the buffer of selected inputs. -/
def piecesX (xg : FVec F S16x64x4096 .f32) (m : Fin 16 → Vec F S1x64x1 .f32) : List (View.Piece (Elt F) S16x64x2048 .f32) :=
  tiles fun k => ⟨rowX k, pick k xg (m k)⟩

/-- The pieces a point stores into its output block. -/
def piecesOut (s : ℕ → FVec F S64x512 .f32) : List (View.Piece (Elt F) S16x64x512 .f32) :=
  tiles fun k => ⟨rowOut k, shapeCast S1x64x512 (s (k.val + 1)) shapeCasts_S64x512_S1x64x512⟩

end Cert.Lstm

end
-- ==== Proof.Point.lean ====
module

public import proofs.«01_k».proof.Proof.Chain
public import Idealize.ShloMosaic.Lib.Pointwise

@[expose] public section

/-! # What a grid point leaves, as a function of what it finds

The contents of the scratch the first point prepares, the states of a point's sixteen steps as a function of the
scratch it finds, and the reading of a buffer written row by row. -/

set_option maxRecDepth 16384

noncomputable section

namespace Cert.Lstm

open Idealize.ShloMosaic Idealize.ShloMosaic.TcCoe
open Cert.KernelIdeal Cert.KernelIdeal.Gen

variable {F : FTy → Type} [FloatOps F]

/-- The rows the first point stores as its input weights: the first cell's, then the second's. -/
def prepWx (a b : Vec F S2048x512 .f32) : List (View.Piece (Elt F) S4096x512 .bf16) :=
  [⟨Rect.unit ![2048, 0] S2048x512.size inb_S4096x512_S2048x512_2048_0, k0_pay7 b⟩,
   ⟨Rect.unit ![0, 0] S2048x512.size inb_S4096x512_S2048x512_0_0, k0_pay6 a⟩]

/-- The rows the first point stores as its recurrent weights, from the four gates' blocks `a` of the first cell and
    `b` of the second: input gates, candidates, forget gates, output gates, each of the two cells in turn. -/
def prepWh (a b : Fin 4 → Vec F S512x512 .f32) : List (View.Piece (Elt F) S4096x512 .bf16) :=
  [⟨Rect.unit ![3584, 0] S512x512.size inb_S4096x512_S512x512_3584_0, k0_pay16 (b 3)⟩,
   ⟨Rect.unit ![3072, 0] S512x512.size inb_S4096x512_S512x512_3072_0, k0_pay15 (a 3)⟩,
   ⟨Rect.unit ![2560, 0] S512x512.size inb_S4096x512_S512x512_2560_0, k0_pay14 (b 1)⟩,
   ⟨Rect.unit ![2048, 0] S512x512.size inb_S4096x512_S512x512_2048_0, k0_pay13 (a 1)⟩,
   ⟨Rect.unit ![1536, 0] S512x512.size inb_S4096x512_S512x512_1536_0, k0_pay12 (b 2)⟩,
   ⟨Rect.unit ![1024, 0] S512x512.size inb_S4096x512_S512x512_1024_0, k0_pay11 (k0_pay10 (a 2))⟩,
   ⟨Rect.unit ![512, 0] S512x512.size inb_S4096x512_S512x512_512_0, k0_pay9 (b 0)⟩,
   ⟨Rect.unit ![0, 0] S512x512.size inb_S4096x512_S512x512_0_0, k0_pay8 (a 0)⟩]

/-- The summed biases of the two cells side by side. -/
def prepBx (a b c d : Vec F S1x2048 .f32) : List (View.Piece (Elt F) S1x4096 .f32) :=
  [⟨Rect.unit ![0, 2048] S1x2048.size inb_S1x4096_S1x2048_0_2048, k0_pay19 c d⟩,
   ⟨Rect.unit ![0, 0] S1x2048.size inb_S1x4096_S1x2048_0_0, k0_pay18 (k0_pay17 a) b⟩]

/-- The table of the tokens' parities. -/
def prepMask (t : Vec F S64x32 .i32) : List (View.Piece (Elt F) S32x64x1 .f32) :=
  [⟨Rect.unit ![0, 0, 0] S32x64x1.size inb_S32x64x1_S32x64x1_0_0_0, k0_pay20 t⟩]

/-- Gate `q`'s block of rows. -/
def rowsQ (q : Fin 4) : Rect S2048x512 :=
  Rect.unit ![512 * q.val, 0] S512x512.size
    ((by decide +kernel : ∀ q : Fin 4, ∀ a, (![512 * q.val, 0] : Fin 2 → ℕ) a + S512x512.size a ≤ S2048x512.size a) q)

/-- Gate `q`'s block of recurrent weights. -/
def block (w : Vec F S2048x512 .f32) (q : Fin 4) : Vec F S512x512 .f32 := fun y => w ((rowsQ q).idx y)

/-- The mask's row of step `k` at grid point `i`. -/
def maskRow (i : grid0.Coords) (mk : Vec F S32x64x1 .f32) (k : Fin 16) : Vec F S1x64x1 .f32 := fun y => mk ((rowM i k).idx y)

/-- The first half of the hidden weights: the input and candidate gates of both cells. -/
def upper (w : Vec F S4096x512 .bf16) : Vec F S2048x512 .bf16 := fun y => w (halfW1.idx y)
/-- The second half of the hidden weights: the forget and output gates of both cells. -/
def lower (w : Vec F S4096x512 .bf16) : Vec F S2048x512 .bf16 := fun y => w (halfW2.idx y)

/-- The states of a point's steps, from the scratch it finds, its block of inputs and the states it starts from. -/
def point (i : grid0.Coords) (wx wh : Vec F S4096x512 .bf16) (bx : Vec F S1x4096 .f32) (mk : Vec F S32x64x1 .f32)
    (x : Vec F S16x64x512 .f32) (h c : Vec F S64x512 .f32) (n : ℕ) : FVec F S64x512 .f32 × FVec F S64x512 .f32 :=
  states (upper wh) (lower wh) (maskRow i mk) (fun k => pick k (k0_pay21 x wx bx) (maskRow i mk k)) h c n

/-! ## A buffer written row by row -/

/-- A load of the whole of a buffer is what its stores left. -/
theorem readCov_whole {S : Shape} {e : EltTy} {κ : Kind} {sp : Space} (v : View sig κ sp S e) {off : Fin S.rank → ℕ}
    (h : off = fun _ => 0) (inb : ∀ a, off a + S.size a ≤ S.size a) (L : List (View.Piece (Elt F) S e)) :
    v.readCov L (Rect.unit off S.size inb).toLoadRect = View.canon L :=
  (View.readCov_eq_canon' v L _).trans (View.ld_unit_zero h inb (View.canon L))

/-- A load of a half of the recurrent weights, or of a row of the mask's table, likewise. -/
theorem load_upper {κ : Kind} {sp : Space} (v : View sig κ sp S4096x512 .bf16) (L : List (View.Piece (Elt F) S4096x512 .bf16)) :
    v.readCov L halfW1.toLoadRect = upper (View.canon L) :=
  View.readCov_eq_canon' v L halfW1.toLoadRect

/-- Loading the second half of a whole buffer gives its second half. -/
theorem load_lower {κ : Kind} {sp : Space} (v : View sig κ sp S4096x512 .bf16) (L : List (View.Piece (Elt F) S4096x512 .bf16)) :
    v.readCov L halfW2.toLoadRect = lower (View.canon L) :=
  View.readCov_eq_canon' v L halfW2.toLoadRect

/-- The output block after sixteen stores, one row each, holds at row `k` the `k`-th stored state. -/
theorem canon_out (s : ℕ → FVec F S64x512 .f32) (k : Fin 16) (b : Fin 64) (j : Fin 512) :
    View.canon (piecesOut s) (ix3 k b j : S16x64x512.Idx) = s (k.val + 1) (ix2 b j) := by
  refine View.canon_apply_of_pieces (fun y : S16x64x512.Idx => s ((y 0).val + 1) (ix2 (y 1) (y 2))) (piecesOut s) ?_ _ ?_
  · intro p hp x
    obtain ⟨k', rfl⟩ := (mem_tiles _ _).1 hp
    have hx0 : (x 0).val = 0 := Nat.lt_one_iff.1 (x 0).isLt
    have h0 : (((rowOut k').emb x) 0).val = k'.val := by
      show k'.val + 1 * (x 0).val = k'.val
      omega
    have h1 : ((rowOut k').emb x) 1 = x 1 := Fin.ext (by show 0 + 1 * (x 1).val = _; omega)
    have h2 : ((rowOut k').emb x) 2 = x 2 := Fin.ext (by show 0 + 1 * (x 2).val = _; omega)
    show shapeCast S1x64x512 (s (k'.val + 1)) shapeCasts_S64x512_S1x64x512 x = s ((((rowOut k').emb x) 0).val + 1) (ix2 (((rowOut k').emb x) 1) (((rowOut k').emb x) 2))
    rw [h0, h1, h2]
    pointwise []
  · refine ⟨_, (mem_tiles _ _).2 ⟨k, rfl⟩, ?_⟩
    have e : (ix3 k b j : S16x64x512.Idx) = (rowOut k).idx (ix3 (0 : Fin 1) b j : S1x64x512.Idx) := by
      funext a
      apply Fin.ext
      fin_cases a
      · show k.val = k.val + 1 * 0; omega
      · show b.val = 0 + 1 * b.val; omega
      · show j.val = 0 + 1 * j.val; omega
    rw [e]
    exact (rowOut k).idx_mem _

/-- The buffer of selected projections after sixteen stores, one row each. -/
theorem canon_x (xg : FVec F S16x64x4096 .f32) (m : Fin 16 → Vec F S1x64x1 .f32) (k : Fin 16) :
    (fun y => View.canon (piecesX xg m) ((rowX k).idx y)) = pick k xg (m k) := by
  have key : ∀ (k' : Fin 16) (x : S1x64x2048.Idx), pick k' xg (m k') x =
      pick (((rowX k').idx x) 0) xg (m (((rowX k').idx x) 0)) (ix3 0 (((rowX k').idx x) 1) (((rowX k').idx x) 2)) := by
    intro k' x
    have hx0 : (x 0).val = 0 := Nat.lt_one_iff.1 (x 0).isLt
    have h0 : ((rowX k').idx x) 0 = k' := Fin.ext (by show k'.val + 1 * (x 0).val = _; omega)
    have h1 : ((rowX k').idx x) 1 = x 1 := Fin.ext (by show 0 + 1 * (x 1).val = _; omega)
    have h2 : ((rowX k').idx x) 2 = x 2 := Fin.ext (by show 0 + 1 * (x 2).val = _; omega)
    rw [h0, h1, h2]
    congr 1
    refine (eq_ix3 x).trans ?_
    congr 1
    exact Fin.ext hx0
  funext y
  refine (View.canon_apply_of_pieces (fun y : S16x64x2048.Idx => pick (y 0) xg (m (y 0)) (ix3 0 (y 1) (y 2))) (piecesX xg m) ?_ _ ?_).trans (key k y).symm
  · intro p hp x
    obtain ⟨k', rfl⟩ := (mem_tiles _ _).1 hp
    exact key k' x
  · exact ⟨_, (mem_tiles _ _).2 ⟨k, rfl⟩, (rowX k).idx_mem _⟩

/-- Loading row `k` of the selected projections gives what was stored there. -/
theorem load_x {κ : Kind} {sp : Space} (v : View sig κ sp S16x64x2048 .f32) (xg : FVec F S16x64x4096 .f32) (m : Fin 16 → Vec F S1x64x1 .f32) :
    (fun k => v.readCov (piecesX xg m) (rowX k).toLoadRect) = fun k => pick k xg (m k) :=
  funext fun k => (View.readCov_eq_canon' v (piecesX xg m) (rowX k).toLoadRect).trans (canon_x xg m k)

end Cert.Lstm

end
-- ==== Proof.RunA.lean ====
module

public import proofs.«01_k».proof.Proof.Point

@[expose] public section

/-! # The first grid point: it prepares the scratch

The pieces the printed body stores, stated with the recursion of `Chain`, hold by unfolding alone; what it loads
back from the scratch is what it prepared there. -/

set_option maxRecDepth 65536

noncomputable section

namespace Cert.Lstm

open Idealize.ShloMosaic Idealize.ShloMosaic.TcCoe Idealize.ShloMosaic.Tactic
open Cert.KernelIdeal Cert.KernelIdeal.Gen

variable {F : FTy → Type} [FloatOps F]

variable (c : Dev nD) (i : grid0.Coords)
  (arg1 : Memref sig .tc .vmem S64x32 .i32) (harg1 : arg1.IsWhole)
  (arg2 : Memref sig .tc .vmem S16x64x512 .f32) (harg2 : arg2.IsWhole)
  (arg3 : Memref sig .tc .vmem S2048x512 .f32) (harg3 : arg3.IsWhole)
  (arg4 : Memref sig .tc .vmem S2048x512 .f32) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S16x64x512 .f32) (harg11 : arg11.IsWhole)
  (arg12 : Memref sig .tc .vmem S64x512 .f32) (harg12 : arg12.IsWhole)
  (arg13 : Memref sig .tc .vmem S64x512 .f32) (harg13 : arg13.IsWhole)
  (arg14 : Memref sig .tc .vmem S4096x512 .bf16) (harg14 : arg14.IsWhole)
  (arg15 : Memref sig .tc .vmem S4096x512 .bf16) (harg15 : arg15.IsWhole)
  (arg16 : Memref sig .tc .vmem S1x4096 .f32) (harg16 : arg16.IsWhole)
  (arg17 : Memref sig .tc .vmem S32x64x1 .f32) (harg17 : arg17.IsWhole)
  (arg18 : Memref sig .tc .vmem S16x64x2048 .f32) (harg18 : arg18.IsWhole)
  (arg19 : Memref sig .tc .vmem S64x512 .f32) (harg19 : arg19.IsWhole)
  (arg20 : Memref sig .tc .vmem S64x512 .f32) (harg20 : arg20.IsWhole)
  (hc0 : cond0_0 i)
  (x0 : Vec F S64x32 .i32) (x1 : Vec F S16x64x512 .f32) (x2 : Vec F S2048x512 .f32) (x3 : Vec F S2048x512 .f32) (x4 : Vec F S2048x512 .f32) (x5 : Vec F S2048x512 .f32) (x6 : Vec F S1x2048 .f32) (x7 : Vec F S1x2048 .f32) (x8 : Vec F S1x2048 .f32) (x9 : Vec F S1x2048 .f32)

/-- Loads of a whole block of the first point. -/
def loadW (arg : Memref sig .tc .vmem S2048x512 .f32) (harg : arg.IsWhole) (x : Vec F S2048x512 .f32) : Vec F S2048x512 .f32 :=
  View.readAt (Elt F) arg.view (Rect.unit ![0, 0] S2048x512.size inb_S2048x512_S2048x512_0_0).toLoadRect (harg.unread x)

/-- A bias, loaded whole. -/
def loadB (arg : Memref sig .tc .vmem S1x2048 .f32) (harg : arg.IsWhole) (x : Vec F S1x2048 .f32) : Vec F S1x2048 .f32 :=
  View.readAt (Elt F) arg.view (Rect.unit ![0, 0] S1x2048.size inb_S1x2048_S1x2048_0_0).toLoadRect (harg.unread x)

/-- The tokens, loaded whole. -/
def loadT : Vec F S64x32 .i32 :=
  View.readAt (Elt F) arg1.view (Rect.unit ![0, 0] S64x32.size inb_S64x32_S64x32_0_0).toLoadRect (harg1.unread x0)

/-- Gate `q`'s block of a cell's recurrent weights, loaded. -/
def loadQ (arg : Memref sig .tc .vmem S2048x512 .f32) (harg : arg.IsWhole) (x : Vec F S2048x512 .f32) (q : Fin 4) : Vec F S512x512 .f32 :=
  View.readAt (Elt F) arg.view (rowsQ q).toLoadRect (harg.unread x)

/-- A weight matrix loaded whole is itself. -/
theorem loadW_eq (arg : Memref sig .tc .vmem S2048x512 .f32) (harg : arg.IsWhole) (x : Vec F S2048x512 .f32) : loadW arg harg x = x := by
  simp (disch := decide) only [loadW, View.readAt_eq_ld, Memref.IsWhole.read_unread, View.ld_unit_lit']

/-- A bias loaded whole is itself. -/
theorem loadB_eq (arg : Memref sig .tc .vmem S1x2048 .f32) (harg : arg.IsWhole) (x : Vec F S1x2048 .f32) : loadB arg harg x = x := by
  simp (disch := decide) only [loadB, View.readAt_eq_ld, Memref.IsWhole.read_unread, View.ld_unit_lit']

/-- The tokens loaded whole are themselves. -/
theorem loadT_eq : loadT arg1 harg1 x0 = x0 := by
  simp (disch := decide) only [loadT, View.readAt_eq_ld, Memref.IsWhole.read_unread, View.ld_unit_lit']

/-- A quarter of a weight matrix, loaded from it, is that quarter. -/
theorem loadQ_eq (arg : Memref sig .tc .vmem S2048x512 .f32) (harg : arg.IsWhole) (x : Vec F S2048x512 .f32) :
    loadQ arg harg x = block x := by
  funext q
  simp only [loadQ, View.readAt_eq_ld, Memref.IsWhole.read_unread]
  rfl

/-- The mask's row of step `k`, loaded back from the table just prepared. -/
def maskA (k : Fin 16) : Vec F S1x64x1 .f32 :=
  View.readAt (Elt F) arg17.view (rowM i k).toLoadRect (arg17.view.writes (Elt F) arg17.view.junk (prepMask (loadT arg1 harg1 x0)))

/-- The projected inputs of the point's sixteen steps. -/
def projA : FVec F S16x64x4096 .f32 :=
  k0_pay21
    (View.readAt (Elt F) arg2.view (Rect.unit ![0, 0, 0] S16x64x512.size inb_S16x64x512_S16x64x512_0_0_0).toLoadRect (harg2.unread x1))
    (arg14.view.readCov (prepWx (loadW arg3 harg3 x2) (loadW arg4 harg4 x3)) (Rect.unit ![0, 0] S4096x512.size inb_S4096x512_S4096x512_0_0).toLoadRect)
    (arg16.view.readCov (prepBx (loadB arg7 harg7 x6) (loadB arg8 harg8 x7) (loadB arg9 harg9 x8) (loadB arg10 harg10 x9))
      (Rect.unit ![0, 0] S1x4096.size inb_S1x4096_S1x4096_0_0).toLoadRect)

/-- The states of the point's sixteen steps. -/
def statesA (n : ℕ) : FVec F S64x512 .f32 × FVec F S64x512 .f32 :=
  states (arg15.view.readCov (prepWh (loadQ arg5 harg5 x4) (loadQ arg6 harg6 x5)) halfW1.toLoadRect)
    (arg15.view.readCov (prepWh (loadQ arg5 harg5 x4) (loadQ arg6 harg6 x5)) halfW2.toLoadRect) (maskA i arg1 harg1 arg17 x0)
    (fun k => arg18.view.readCov (piecesX (projA arg2 harg2 arg3 harg3 arg4 harg4 arg7 harg7 arg8 harg8 arg9 harg9 arg10 harg10 arg14 arg16 x1 x2 x3 x6 x7 x8 x9)
      (maskA i arg1 harg1 arg17 x0)) (rowX k).toLoadRect)
    (arg19.view.readCov [⟨Rect.unit ![0, 0] S64x512.size inb_S64x512_S64x512_0_0, k0_pay4⟩] (Rect.unit ![0, 0] S64x512.size inb_S64x512_S64x512_0_0).toLoadRect)
    (arg20.view.readCov [⟨Rect.unit ![0, 0] S64x512.size inb_S64x512_S64x512_0_0, k0_pay5⟩] (Rect.unit ![0, 0] S64x512.size inb_S64x512_S64x512_0_0).toLoadRect) n

/-- The states of the first point are the plain recursion over what it has prepared. -/
theorem statesA_eq (n : ℕ) : statesA i arg1 harg1 arg2 harg2 arg3 harg3 arg4 harg4 arg5 harg5 arg6 harg6 arg7 harg7 arg8 harg8 arg9 harg9 arg10 harg10 arg14 arg15 arg16 arg17 arg18 arg19 arg20 x0 x1 x2 x3 x4 x5 x6 x7 x8 x9 n =
    point i (View.canon (prepWx x2 x3)) (View.canon (prepWh (block x4) (block x5))) (View.canon (prepBx x6 x7 x8 x9)) (View.canon (prepMask x0)) x1 k0_pay4 k0_pay5 n := by
  have hm : maskA i arg1 harg1 arg17 x0 = maskRow i (View.canon (prepMask x0)) := by
    funext k
    simp only [maskA, View.readAt_eq_ld, View.read_writes_junk_eq_canon, loadT_eq]
    rfl
  have hp : projA arg2 harg2 arg3 harg3 arg4 harg4 arg7 harg7 arg8 harg8 arg9 harg9 arg10 harg10 arg14 arg16 x1 x2 x3 x6 x7 x8 x9 =
      k0_pay21 x1 (View.canon (prepWx x2 x3)) (View.canon (prepBx x6 x7 x8 x9)) := by
    have e0 : View.readAt (Elt F) arg2.view (Rect.unit ![0, 0, 0] S16x64x512.size inb_S16x64x512_S16x64x512_0_0_0).toLoadRect (harg2.unread x1) = x1 := by
      simp (disch := decide) only [View.readAt_eq_ld, Memref.IsWhole.read_unread, View.ld_unit_lit']
    have e1 : arg14.view.readCov (prepWx x2 x3) (Rect.unit ![0, 0] S4096x512.size inb_S4096x512_S4096x512_0_0).toLoadRect = View.canon (prepWx x2 x3) :=
      readCov_whole arg14.view (by decide) inb_S4096x512_S4096x512_0_0 (prepWx x2 x3)
    have e2 : arg16.view.readCov (prepBx x6 x7 x8 x9) (Rect.unit ![0, 0] S1x4096.size inb_S1x4096_S1x4096_0_0).toLoadRect = View.canon (prepBx x6 x7 x8 x9) :=
      readCov_whole arg16.view (by decide) inb_S1x4096_S1x4096_0_0 (prepBx x6 x7 x8 x9)
    unfold projA
    have hc : ∀ (a a' : Vec F S16x64x512 .f32) (b b' : Vec F S4096x512 .bf16) (d d' : Vec F S1x4096 .f32),
        a = a' → b = b' → d = d' → k0_pay21 a b d = k0_pay21 a' b' d' := by
      intro a a' b b' d d' h1 h2 h3
      rw [h1, h2, h3]
    refine hc _ _ _ _ _ _ e0 ?_ ?_
    · rw [loadW_eq, loadW_eq]
      exact e1
    · have e3 : prepBx (loadB arg7 harg7 x6) (loadB arg8 harg8 x7) (loadB arg9 harg9 x8) (loadB arg10 harg10 x9) = prepBx x6 x7 x8 x9 := by
        simp only [loadB_eq]
      exact (congrArg (fun L => arg16.view.readCov L (Rect.unit ![0, 0] S1x4096.size inb_S1x4096_S1x4096_0_0).toLoadRect) e3).trans e2
  unfold statesA
  rw [hm, hp, loadQ_eq, loadQ_eq]
  have h5 : arg19.view.readCov ([⟨Rect.unit ![0, 0] S64x512.size inb_S64x512_S64x512_0_0, k0_pay4⟩] : List (View.Piece (Elt F) S64x512 .f32))
      (Rect.unit ![0, 0] S64x512.size inb_S64x512_S64x512_0_0).toLoadRect = (k0_pay4 : FVec F S64x512 .f32) := View.readCov_unit_zero arg19.view (off := ![0, 0]) (by decide) inb_S64x512_S64x512_0_0 _
  have h6 : arg20.view.readCov ([⟨Rect.unit ![0, 0] S64x512.size inb_S64x512_S64x512_0_0, k0_pay5⟩] : List (View.Piece (Elt F) S64x512 .f32))
      (Rect.unit ![0, 0] S64x512.size inb_S64x512_S64x512_0_0).toLoadRect = (k0_pay5 : FVec F S64x512 .f32) := View.readCov_unit_zero arg20.view (off := ![0, 0]) (by decide) inb_S64x512_S64x512_0_0 _
  rw [load_upper, load_lower, load_x, h5, h6]
  unfold point
  rfl

/-- What the first point leaves in its output block. -/
theorem runA_10 : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).1 = piecesOut (fun n => (statesA i arg1 harg1 arg2 harg2 arg3 harg3 arg4 harg4 arg5 harg5 arg6 harg6 arg7 harg7 arg8 harg8 arg9 harg9 arg10 harg10 arg14 arg15 arg16 arg17 arg18 arg19 arg20 x0 x1 x2 x3 x4 x5 x6 x7 x8 x9 n).1) := by
  sl_kernel_rfl

/-- What the point leaves in its block of outputs. -/
theorem outA_10 : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = View.canon (piecesOut fun n => (point i (View.canon (prepWx x2 x3)) (View.canon (prepWh (block x4) (block x5))) (View.canon (prepBx x6 x7 x8 x9)) (View.canon (prepMask x0)) x1 k0_pay4 k0_pay5 n).1) := by
  unfold out0_A_10
  have hs : (fun n => (statesA i arg1 harg1 arg2 harg2 arg3 harg3 arg4 harg4 arg5 harg5 arg6 harg6 arg7 harg7 arg8 harg8 arg9 harg9 arg10 harg10 arg14 arg15 arg16 arg17 arg18 arg19 arg20 x0 x1 x2 x3 x4 x5 x6 x7 x8 x9 n).1) = fun n => (point i (View.canon (prepWx x2 x3)) (View.canon (prepWh (block x4) (block x5))) (View.canon (prepBx x6 x7 x8 x9)) (View.canon (prepMask x0)) x1 k0_pay4 k0_pay5 n).1 := funext fun n => by rw [statesA_eq]
  rw [View.read_writes_junk_eq_canon, runA_10, hs]

/-- The final hidden state it leaves in its output. -/
theorem outA_11 : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = (point i (View.canon (prepWx x2 x3)) (View.canon (prepWh (block x4) (block x5))) (View.canon (prepBx x6 x7 x8 x9)) (View.canon (prepMask x0)) x1 k0_pay4 k0_pay5 16).1 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.1 =
      [⟨Rect.unit ![0, 0] S64x512.size inb_S64x512_S64x512_0_0, (statesA i arg1 harg1 arg2 harg2 arg3 harg3 arg4 harg4 arg5 harg5 arg6 harg6 arg7 harg7 arg8 harg8 arg9 harg9 arg10 harg10 arg14 arg15 arg16 arg17 arg18 arg19 arg20 x0 x1 x2 x3 x4 x5 x6 x7 x8 x9 16).1⟩] := by
    sl_kernel_rfl
  unfold out0_A_11
  rw [View.read_writes_junk_eq_canon, e, statesA_eq]
  simp (disch := decide) only [View.canon_cons_unit_lit']

/-- The final cell state it leaves in its output. -/
theorem outA_12 : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = (point i (View.canon (prepWx x2 x3)) (View.canon (prepWh (block x4) (block x5))) (View.canon (prepBx x6 x7 x8 x9)) (View.canon (prepMask x0)) x1 k0_pay4 k0_pay5 16).2 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.1 =
      [⟨Rect.unit ![0, 0] S64x512.size inb_S64x512_S64x512_0_0, (statesA i arg1 harg1 arg2 harg2 arg3 harg3 arg4 harg4 arg5 harg5 arg6 harg6 arg7 harg7 arg8 harg8 arg9 harg9 arg10 harg10 arg14 arg15 arg16 arg17 arg18 arg19 arg20 x0 x1 x2 x3 x4 x5 x6 x7 x8 x9 16).2⟩] := by
    sl_kernel_rfl
  unfold out0_A_12
  rw [View.read_writes_junk_eq_canon, e, statesA_eq]
  simp (disch := decide) only [View.canon_cons_unit_lit']

/-- The hidden state it leaves in the scratch. -/
theorem soutA_5 : sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = (point i (View.canon (prepWx x2 x3)) (View.canon (prepWh (block x4) (block x5))) (View.canon (prepBx x6 x7 x8 x9)) (View.canon (prepMask x0)) x1 k0_pay4 k0_pay5 16).1 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.2.2.1 =
      [⟨Rect.unit ![0, 0] S64x512.size inb_S64x512_S64x512_0_0, shapeCast S64x512 (statesA i arg1 harg1 arg2 harg2 arg3 harg3 arg4 harg4 arg5 harg5 arg6 harg6 arg7 harg7 arg8 harg8 arg9 harg9 arg10 harg10 arg14 arg15 arg16 arg17 arg18 arg19 arg20 x0 x1 x2 x3 x4 x5 x6 x7 x8 x9 16).1 shapeCasts_S64x512_S64x512⟩,
       ⟨Rect.unit ![0, 0] S64x512.size inb_S64x512_S64x512_0_0, k0_pay4⟩] := by
    sl_kernel_rfl
  unfold sout0_A_5
  rw [View.read_writes_junk_eq_canon, e, statesA_eq]
  simp (disch := decide) only [View.canon_cons_unit_lit', shapeCast_self]

/-- The cell state it leaves in the scratch. -/
theorem soutA_6 : sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = (point i (View.canon (prepWx x2 x3)) (View.canon (prepWh (block x4) (block x5))) (View.canon (prepBx x6 x7 x8 x9)) (View.canon (prepMask x0)) x1 k0_pay4 k0_pay5 16).2 := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.2.2.2.1 =
      [⟨Rect.unit ![0, 0] S64x512.size inb_S64x512_S64x512_0_0, shapeCast S64x512 (statesA i arg1 harg1 arg2 harg2 arg3 harg3 arg4 harg4 arg5 harg5 arg6 harg6 arg7 harg7 arg8 harg8 arg9 harg9 arg10 harg10 arg14 arg15 arg16 arg17 arg18 arg19 arg20 x0 x1 x2 x3 x4 x5 x6 x7 x8 x9 16).2 shapeCasts_S64x512_S64x512⟩,
       ⟨Rect.unit ![0, 0] S64x512.size inb_S64x512_S64x512_0_0, k0_pay5⟩] := by
    sl_kernel_rfl
  unfold sout0_A_6
  rw [View.read_writes_junk_eq_canon, e, statesA_eq]
  simp (disch := decide) only [View.canon_cons_unit_lit', shapeCast_self]

/-- The input weights it leaves in the scratch. -/
theorem soutA_0 : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = View.canon (prepWx x2 x3) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.1 = prepWx (loadW arg3 harg3 x2) (loadW arg4 harg4 x3) := by
    sl_kernel_rfl
  unfold sout0_A_0
  rw [View.read_writes_junk_eq_canon, e, loadW_eq, loadW_eq]

/-- The recurrent weights it leaves in the scratch. -/
theorem soutA_1 : sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = View.canon (prepWh (block x4) (block x5)) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.1 = prepWh (loadQ arg5 harg5 x4) (loadQ arg6 harg6 x5) := by
    sl_kernel_rfl
  unfold sout0_A_1
  rw [View.read_writes_junk_eq_canon, e, loadQ_eq, loadQ_eq]

/-- The summed biases it leaves in the scratch. -/
theorem soutA_2 : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = View.canon (prepBx x6 x7 x8 x9) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.1 = prepBx (loadB arg7 harg7 x6) (loadB arg8 harg8 x7) (loadB arg9 harg9 x8) (loadB arg10 harg10 x9) := by
    sl_kernel_rfl
  unfold sout0_A_2
  rw [View.read_writes_junk_eq_canon, e, loadB_eq, loadB_eq, loadB_eq, loadB_eq]

/-- The table of parities it leaves in the scratch. -/
theorem soutA_3 : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 = View.canon (prepMask x0) := by
  have e : (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9).2.2.2.2.2.2.1 = prepMask (loadT arg1 harg1 x0) := by
    sl_kernel_rfl
  unfold sout0_A_3
  rw [View.read_writes_junk_eq_canon, e, loadT_eq]

end Cert.Lstm

end
-- ==== Proof.RunB.lean ====
module

public import proofs.«01_k».proof.Proof.Point

@[expose] public section

/-! # The later grid point: it finds its scratch prepared

The pieces the printed body stores, stated with the recursion of `Chain`, hold by unfolding alone; a load of a
whole buffer is the buffer. -/

set_option maxRecDepth 65536

noncomputable section

namespace Cert.Lstm

open Idealize.ShloMosaic Idealize.ShloMosaic.TcCoe Idealize.ShloMosaic.Tactic
open Cert.KernelIdeal Cert.KernelIdeal.Gen

variable {F : FTy → Type} [FloatOps F]

variable (c : Dev nD) (i : grid0.Coords)
  (arg1 : Memref sig .tc .vmem S64x32 .i32) (harg1 : arg1.IsWhole)
  (arg2 : Memref sig .tc .vmem S16x64x512 .f32) (harg2 : arg2.IsWhole)
  (arg3 : Memref sig .tc .vmem S2048x512 .f32) (harg3 : arg3.IsWhole)
  (arg4 : Memref sig .tc .vmem S2048x512 .f32) (harg4 : arg4.IsWhole)
  (arg5 : Memref sig .tc .vmem S2048x512 .f32) (harg5 : arg5.IsWhole)
  (arg6 : Memref sig .tc .vmem S2048x512 .f32) (harg6 : arg6.IsWhole)
  (arg7 : Memref sig .tc .vmem S1x2048 .f32) (harg7 : arg7.IsWhole)
  (arg8 : Memref sig .tc .vmem S1x2048 .f32) (harg8 : arg8.IsWhole)
  (arg9 : Memref sig .tc .vmem S1x2048 .f32) (harg9 : arg9.IsWhole)
  (arg10 : Memref sig .tc .vmem S1x2048 .f32) (harg10 : arg10.IsWhole)
  (arg11 : Memref sig .tc .vmem S16x64x512 .f32) (harg11 : arg11.IsWhole)
  (arg12 : Memref sig .tc .vmem S64x512 .f32) (harg12 : arg12.IsWhole)
  (arg13 : Memref sig .tc .vmem S64x512 .f32) (harg13 : arg13.IsWhole)
  (arg14 : Memref sig .tc .vmem S4096x512 .bf16) (harg14 : arg14.IsWhole)
  (arg15 : Memref sig .tc .vmem S4096x512 .bf16) (harg15 : arg15.IsWhole)
  (arg16 : Memref sig .tc .vmem S1x4096 .f32) (harg16 : arg16.IsWhole)
  (arg17 : Memref sig .tc .vmem S32x64x1 .f32) (harg17 : arg17.IsWhole)
  (arg18 : Memref sig .tc .vmem S16x64x2048 .f32) (harg18 : arg18.IsWhole)
  (arg19 : Memref sig .tc .vmem S64x512 .f32) (harg19 : arg19.IsWhole)
  (arg20 : Memref sig .tc .vmem S64x512 .f32) (harg20 : arg20.IsWhole)
  (hc0 : ¬cond0_0 i)
  (x0 : Vec F S64x32 .i32) (x1 : Vec F S16x64x512 .f32) (x2 : Vec F S2048x512 .f32) (x3 : Vec F S2048x512 .f32) (x4 : Vec F S2048x512 .f32) (x5 : Vec F S2048x512 .f32) (x6 : Vec F S1x2048 .f32) (x7 : Vec F S1x2048 .f32) (x8 : Vec F S1x2048 .f32) (x9 : Vec F S1x2048 .f32)
  (xs0 : Vec F S4096x512 .bf16) (xs1 : Vec F S4096x512 .bf16) (xs2 : Vec F S1x4096 .f32) (xs3 : Vec F S32x64x1 .f32) (xs5 : Vec F S64x512 .f32) (xs6 : Vec F S64x512 .f32)

/-- The mask's row of step `k`, loaded from the scratch the point finds. -/
def maskB (k : Fin 16) : Vec F S1x64x1 .f32 := View.readAt (Elt F) arg17.view (rowM i k).toLoadRect (harg17.unread xs3)

/-- The projected inputs of the point's sixteen steps. -/
def projB : FVec F S16x64x4096 .f32 :=
  k0_pay21
    (View.readAt (Elt F) arg2.view (Rect.unit ![0, 0, 0] S16x64x512.size inb_S16x64x512_S16x64x512_0_0_0).toLoadRect (harg2.unread x1))
    (View.readAt (Elt F) arg14.view (Rect.unit ![0, 0] S4096x512.size inb_S4096x512_S4096x512_0_0).toLoadRect (harg14.unread xs0))
    (View.readAt (Elt F) arg16.view (Rect.unit ![0, 0] S1x4096.size inb_S1x4096_S1x4096_0_0).toLoadRect (harg16.unread xs2))

/-- The states of the point's sixteen steps. -/
def statesB (n : ℕ) : FVec F S64x512 .f32 × FVec F S64x512 .f32 :=
  states (View.readAt (Elt F) arg15.view halfW1.toLoadRect (harg15.unread xs1))
    (View.readAt (Elt F) arg15.view halfW2.toLoadRect (harg15.unread xs1)) (maskB i arg17 harg17 xs3)
    (fun k => arg18.view.readCov (piecesX (projB arg2 harg2 arg14 harg14 arg16 harg16 x1 xs0 xs2) (maskB i arg17 harg17 xs3)) (rowX k).toLoadRect)
    (View.readAt (Elt F) arg19.view (Rect.unit ![0, 0] S64x512.size inb_S64x512_S64x512_0_0).toLoadRect (harg19.unread xs5))
    (View.readAt (Elt F) arg20.view (Rect.unit ![0, 0] S64x512.size inb_S64x512_S64x512_0_0).toLoadRect (harg20.unread xs6)) n

/-- The states of the second point are the plain recursion over its buffers. -/
theorem statesB_eq (n : ℕ) :
    statesB i arg2 harg2 arg14 harg14 arg15 harg15 arg16 harg16 arg17 harg17 arg18 arg19 harg19 arg20 harg20 x1 xs0 xs1 xs2 xs3 xs5 xs6 n =
      point i xs0 xs1 xs2 xs3 x1 xs5 xs6 n := by
  have hm : maskB i arg17 harg17 xs3 = maskRow i xs3 := by
    funext k
    simp only [maskB, View.readAt_eq_ld, Memref.IsWhole.read_unread]
    rfl
  have hp : projB arg2 harg2 arg14 harg14 arg16 harg16 x1 xs0 xs2 = k0_pay21 x1 xs0 xs2 := by
    simp (disch := decide) only [projB, View.readAt_eq_ld, Memref.IsWhole.read_unread, View.ld_unit_lit']
  unfold statesB
  rw [hm, hp]
  simp (disch := decide) only [View.readAt_eq_ld, Memref.IsWhole.read_unread, View.ld_unit_lit']
  unfold point
  congr 1
  funext k
  exact (View.readCov_eq_canon' arg18.view (piecesX (k0_pay21 x1 xs0 xs2) (maskRow i xs3)) (rowX k).toLoadRect).trans
    (canon_x _ _ k)

/-- What the second point leaves in its output block. -/
theorem runB_10 : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6).1 = piecesOut (fun n => (statesB i arg2 harg2 arg14 harg14 arg15 harg15 arg16 harg16 arg17 harg17 arg18 arg19 harg19 arg20 harg20 x1 xs0 xs1 xs2 xs3 xs5 xs6 n).1) := by
  sl_kernel_rfl

/-- What the point leaves in its block of outputs. -/
theorem outB_10 : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6 = View.canon (piecesOut fun n => (point i xs0 xs1 xs2 xs3 x1 xs5 xs6 n).1) := by
  unfold out0_B_10
  have hs : (fun n => (statesB i arg2 harg2 arg14 harg14 arg15 harg15 arg16 harg16 arg17 harg17 arg18 arg19 harg19 arg20 harg20 x1 xs0 xs1 xs2 xs3 xs5 xs6 n).1) = fun n => (point i xs0 xs1 xs2 xs3 x1 xs5 xs6 n).1 := funext fun n => by rw [statesB_eq]
  rw [View.read_writes_junk_eq_canon, runB_10, hs]

/-- The final hidden state it leaves in its output. -/
theorem outB_11 : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6 = (point i xs0 xs1 xs2 xs3 x1 xs5 xs6 16).1 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6).2.1 =
      [⟨Rect.unit ![0, 0] S64x512.size inb_S64x512_S64x512_0_0, (statesB i arg2 harg2 arg14 harg14 arg15 harg15 arg16 harg16 arg17 harg17 arg18 arg19 harg19 arg20 harg20 x1 xs0 xs1 xs2 xs3 xs5 xs6 16).1⟩] := by
    sl_kernel_rfl
  unfold out0_B_11
  rw [View.read_writes_junk_eq_canon, e, statesB_eq]
  simp (disch := decide) only [View.canon_cons_unit_lit']

/-- The final cell state it leaves in its output. -/
theorem outB_12 : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6 = (point i xs0 xs1 xs2 xs3 x1 xs5 xs6 16).2 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6).2.2.1 =
      [⟨Rect.unit ![0, 0] S64x512.size inb_S64x512_S64x512_0_0, (statesB i arg2 harg2 arg14 harg14 arg15 harg15 arg16 harg16 arg17 harg17 arg18 arg19 harg19 arg20 harg20 x1 xs0 xs1 xs2 xs3 xs5 xs6 16).2⟩] := by
    sl_kernel_rfl
  unfold out0_B_12
  rw [View.read_writes_junk_eq_canon, e, statesB_eq]
  simp (disch := decide) only [View.canon_cons_unit_lit']

/-- The hidden state it leaves in the scratch. -/
theorem soutB_5 : sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6 = (point i xs0 xs1 xs2 xs3 x1 xs5 xs6 16).1 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6).2.2.2.2.2.2.2.1 =
      [⟨Rect.unit ![0, 0] S64x512.size inb_S64x512_S64x512_0_0, shapeCast S64x512 (statesB i arg2 harg2 arg14 harg14 arg15 harg15 arg16 harg16 arg17 harg17 arg18 arg19 harg19 arg20 harg20 x1 xs0 xs1 xs2 xs3 xs5 xs6 16).1 shapeCasts_S64x512_S64x512⟩] := by
    sl_kernel_rfl
  unfold sout0_B_5
  rw [View.read_writes_junk_eq_canon, e, statesB_eq]
  simp (disch := decide) only [View.canon_cons_unit_lit', shapeCast_self]

/-- The cell state it leaves in the scratch. -/
theorem soutB_6 : sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6 = (point i xs0 xs1 xs2 xs3 x1 xs5 xs6 16).2 := by
  have e : (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 x0 x1 x2 x3 x4 x5 x6 x7 x8 x9 xs0 xs1 xs2 xs3 xs5 xs6).2.2.2.2.2.2.2.2.1 =
      [⟨Rect.unit ![0, 0] S64x512.size inb_S64x512_S64x512_0_0, shapeCast S64x512 (statesB i arg2 harg2 arg14 harg14 arg15 harg15 arg16 harg16 arg17 harg17 arg18 arg19 harg19 arg20 harg20 x1 xs0 xs1 xs2 xs3 xs5 xs6 16).2 shapeCasts_S64x512_S64x512⟩] := by
    sl_kernel_rfl
  unfold sout0_B_6
  rw [View.read_writes_junk_eq_canon, e, statesB_eq]
  simp (disch := decide) only [View.canon_cons_unit_lit', shapeCast_self]

end Cert.Lstm

end
-- ==== Proof.Spec.lean ====
module

public import Idealize.ShloMosaic.Lib.Pointwise

@[expose] public section

/-! # The two-cell recurrence, in plain terms

Two LSTM cells share one state; at each step every row of the batch takes the cell its token's parity names. -/

set_option maxRecDepth 16384

noncomputable section

namespace Cert.Lstm

open Idealize.ShloMosaic

/-- A state: one number for each row of the batch and each hidden unit. -/
abbrev St := Fin 64 → Fin 512 → EReal

/-- The weights, biases and inputs of the two cells, and which rows take the second cell at each step. -/
structure Net where
  W0 : Fin 2048 → Fin 512 → EReal
  U0 : Fin 2048 → Fin 512 → EReal
  p0 : Fin 2048 → EReal
  q0 : Fin 2048 → EReal
  W1 : Fin 2048 → Fin 512 → EReal
  U1 : Fin 2048 → Fin 512 → EReal
  p1 : Fin 2048 → EReal
  q1 : Fin 2048 → EReal
  x : Fin 32 → Fin 64 → Fin 512 → EReal
  odd : Fin 32 → Fin 64 → Prop

/-- One gate's argument: input part, its bias, recurrent part, its bias. -/
def gate (W U : Fin 2048 → Fin 512 → EReal) (p q : Fin 2048 → EReal) (x h : Fin 512 → EReal) (g : Fin 2048) : EReal :=
  ((∑ k, x k * W g k) + p g + ∑ k, h k * U g k) + q g

/-- The sum of a gate's argument with the two biases added first. -/
theorem gate_eq (W U : Fin 2048 → Fin 512 → EReal) (p q : Fin 2048 → EReal) (x h : Fin 512 → EReal) (g : Fin 2048) :
    (∑ k, x k * W g k) + (p g + q g) + ∑ k, h k * U g k = gate W U p q x h g := by
  unfold gate
  rw [← add_assoc, add_right_comm]

/-- The new cell state of one row and unit from the gates' arguments. -/
def newC (z : Fin 2048 → EReal) (c : EReal) (j : Fin 512) : EReal :=
  Ideal.logistic (z ⟨512 + j.val, by omega⟩) * c
    + Ideal.logistic (z ⟨j.val, by omega⟩) * Ideal.tanh (z ⟨1024 + j.val, by omega⟩)

/-- The new hidden state of one row and unit. -/
def newH (z : Fin 2048 → EReal) (c : EReal) (j : Fin 512) : EReal :=
  Ideal.logistic (z ⟨1536 + j.val, by omega⟩) * Ideal.tanh (newC z c j)

open Classical in
/-- The arguments of the gates of the cell a row takes at step `k`. -/
def Net.z (N : Net) (k : Fin 32) (h : St) (b : Fin 64) : Fin 2048 → EReal :=
  if N.odd k b then gate N.W1 N.U1 N.p1 N.q1 (N.x k b) (h b) else gate N.W0 N.U0 N.p0 N.q0 (N.x k b) (h b)

/-- Hidden and cell state after `n` steps. -/
def Net.traj (N : Net) : ℕ → St × St
  | 0 => (fun _ _ => 0, fun _ _ => 0)
  | n + 1 =>
    (fun b j => newH (N.z ⟨n % 32, Nat.mod_lt _ (by decide)⟩ (N.traj n).1 b) ((N.traj n).2 b j) j,
     fun b j => newC (N.z ⟨n % 32, Nat.mod_lt _ (by decide)⟩ (N.traj n).1 b) ((N.traj n).2 b j) j)

/-- A token is odd. -/
def oddTok (t : BitVec 32) : Prop := t.toInt % 2 = 1

/-- The signed remainder by two, and the token's parity. -/
theorem srem_two (t : BitVec 32) :
    (t.srem 2#32 = 0#32 ∧ t.toInt % 2 = 0) ∨ (t.srem 2#32 = 1#32 ∧ t.toInt % 2 = 1) ∨
      (t.srem 2#32 = 4294967295#32 ∧ t.toInt % 2 = 1) := by
  have h : (t.srem 2#32).toInt = t.toInt.tmod 2 := by
    rw [BitVec.toInt_srem]; rfl
  have ht : t.toInt.tmod 2 = t.toInt % 2 ∨ (t.toInt.tmod 2 = t.toInt % 2 - 2 ∧ ¬ (2 : ℤ) ∣ t.toInt) := by
    rw [Int.tmod_eq_emod]
    split_ifs with hc
    · exact Or.inl (by omega)
    · exact Or.inr ⟨by norm_num, fun d => hc (Or.inr d)⟩
  have hb : t.toInt.tmod 2 = -1 ∨ t.toInt.tmod 2 = 0 ∨ t.toInt.tmod 2 = 1 := by
    generalize t.toInt.tmod 2 = a at ht ⊢
    omega
  rcases hb with e | e | e <;> rw [e] at h
  · exact Or.inr (Or.inr ⟨BitVec.eq_of_toInt_eq (by rw [h]; rfl), by generalize t.toInt.tmod 2 = a at ht e; omega⟩)
  · exact Or.inl ⟨BitVec.eq_of_toInt_eq (by rw [h]; rfl), by generalize t.toInt.tmod 2 = a at ht e; omega⟩
  · exact Or.inr (Or.inl ⟨BitVec.eq_of_toInt_eq (by rw [h]; rfl), by generalize t.toInt.tmod 2 = a at ht e; omega⟩)

end Cert.Lstm

end
-- ==== Proof.Cell.lean ====
module

public import proofs.«01_k».proof.Proof.Point
public import proofs.«01_k».proof.Proof.Spec

@[expose] public section

/-! # A grid point's steps are steps of the recurrence

Read at an index over the extended reals: one step, the projected and selected inputs, and by induction all the
steps of a point. -/

set_option maxRecDepth 16384

noncomputable section

namespace Cert.Lstm

open Idealize.ShloMosaic Idealize.ShloMosaic.TcCoe
open Cert.KernelIdeal Cert.KernelIdeal.Gen

/-- The mask of a row is set. -/
def isSet (v : EReal) : Prop := Ideal.ofBits FTy.f32 1056964608#32 < v

open Classical in
/-- The selected projection of a row: the one its mask bit names. -/
theorem pick_apply (k : Fin 16) (xg : FVec Ideal S16x64x4096 .f32) (m : FVec Ideal S1x64x1 .f32) (b : Fin 64) (g : Fin 2048) :
    pick (F := Ideal) k xg m (ix3 0 b g) =
      if isSet (m (ix3 0 b 0)) then xg (ix3 k b ⟨2048 + g.val, by omega⟩) else xg (ix3 k b ⟨g.val, by omega⟩) := by
  have hi : ∀ (u v : ℕ) (hu : u < 4096) (hv : v < 4096), u = v → xg (ix3 k b ⟨u, hu⟩) = xg (ix3 k b ⟨v, hv⟩) := by
    intro u v hu hv e
    subst e
    rfl
  pointwise [pick, k0_pay22]
  unfold isSet
  split_ifs <;> first | rfl | (apply hi; omega)

/-- A projection is a row of the input against a row of the weights, plus the bias. -/
theorem proj_apply (x : FVec Ideal S16x64x512 .f32) (wx : FVec Ideal S4096x512 .bf16) (bx : FVec Ideal S1x4096 .f32)
    (k : Fin 16) (b : Fin 64) (g : Fin 4096) :
    k0_pay21 (F := Ideal) x wx bx (ix3 k b g) = (∑ y : Fin 512, x (ix3 k b y) * wx (ix2 g y)) + bx (ix2 0 g) := by
  pointwise [k0_pay21]

/-- What the two halves of the recurrent rows hold: the four gates of the two cells, a cell after the other. -/
structure Rows (N : Net) (W1 W2 : FVec Ideal S2048x512 .bf16) : Prop where
  i0 : ∀ (j : Fin 512) y, W1 (ix2 ⟨j.val, by omega⟩ y) = N.U0 ⟨j.val, by omega⟩ y
  i1 : ∀ (j : Fin 512) y, W1 (ix2 ⟨512 + j.val, by omega⟩ y) = N.U1 ⟨j.val, by omega⟩ y
  g0 : ∀ (j : Fin 512) y, W1 (ix2 ⟨1024 + j.val, by omega⟩ y) = N.U0 ⟨1024 + j.val, by omega⟩ y
  g1 : ∀ (j : Fin 512) y, W1 (ix2 ⟨1536 + j.val, by omega⟩ y) = N.U1 ⟨1024 + j.val, by omega⟩ y
  f0 : ∀ (j : Fin 512) y, W2 (ix2 ⟨j.val, by omega⟩ y) = N.U0 ⟨512 + j.val, by omega⟩ y
  f1 : ∀ (j : Fin 512) y, W2 (ix2 ⟨512 + j.val, by omega⟩ y) = N.U1 ⟨512 + j.val, by omega⟩ y
  o0 : ∀ (j : Fin 512) y, W2 (ix2 ⟨1024 + j.val, by omega⟩ y) = N.U0 ⟨1536 + j.val, by omega⟩ y
  o1 : ∀ (j : Fin 512) y, W2 (ix2 ⟨1536 + j.val, by omega⟩ y) = N.U1 ⟨1536 + j.val, by omega⟩ y

open Classical in
/-- The input part of the gates' arguments of the cell a row takes at step `k`. -/
def Net.inp (N : Net) (k : Fin 32) (b : Fin 64) (g : Fin 2048) : EReal :=
  if N.odd k b then (∑ y, N.x k b y * N.W1 g y) + (N.p1 g + N.q1 g) else (∑ y, N.x k b y * N.W0 g y) + (N.p0 g + N.q0 g)

section
variable (N : Net) (k : Fin 32) (W1 W2 : FVec Ideal S2048x512 .bf16) (hW : Rows N W1 W2)
  (m : FVec Ideal S1x64x1 .f32) (hm : ∀ b, isSet (m (ix3 0 b 0)) ↔ N.odd k b)
  (x : FVec Ideal S1x64x2048 .f32) (hx : ∀ b g, x (ix3 0 b g) = N.inp k b g)
  (h c : FVec Ideal S64x512 .f32) (hs : St) (hh : ∀ b j, h (ix2 b j) = hs b j) (b : Fin 64) (j : Fin 512)

include hW hm hx hh in
/-- A step's cell state is that of the cell the token names. -/
theorem stepC_apply : stepC (F := Ideal) W1 W2 m x h c (ix2 b j) = newC (N.z k hs b) (c (ix2 b j)) j := by
  pointwise [stepC, k0_pay90, k0_pay85, k0_pay86, k0_pay87, k0_pay88, k0_pay89, k0_pay84, k0_pay83]
  have hmb := hm b
  unfold isSet at hmb
  simp only [hx, hh, hW.i0, hW.i1, hW.g0, hW.g1, hW.f0, hW.f1]
  unfold newC Net.z Net.inp
  by_cases ho : N.odd k b
  · simp only [if_pos ho]
    split_ifs with h1
    · simp only [gate_eq]
    · exact absurd (hmb.2 ho) h1
  · simp only [if_neg ho]
    split_ifs with h1
    · exact absurd (hmb.1 h1) ho
    · simp only [gate_eq]

include hW hm hx hh in
/-- A step's hidden state is that of the cell the token names. -/
theorem stepH_apply : stepH (F := Ideal) W1 W2 m x h c (ix2 b j) = newH (N.z k hs b) (c (ix2 b j)) j := by
  have e : stepH (F := Ideal) W1 W2 m x h c (ix2 b j) =
      Ideal.logistic (x (ix3 0 b ⟨1536 + j.val, by omega⟩) +
        if Ideal.ofBits FTy.f32 1056964608#32 < m (ix3 0 b 0) then ∑ y, h (ix2 b y) * W2 (ix2 ⟨1536 + j.val, by omega⟩ y)
        else ∑ y, h (ix2 b y) * W2 (ix2 ⟨1024 + j.val, by omega⟩ y)) * Ideal.tanh (stepC (F := Ideal) W1 W2 m x h c (ix2 b j)) := by
    unfold stepC
    generalize hp : k0_pay90 (F := Ideal) c (k0_pay85 (F := Ideal) h W2) (k0_pay86 (F := Ideal) m) (k0_pay87 (F := Ideal) x) (k0_pay88 (F := Ideal) h W1 m x)
      (k0_pay89 (F := Ideal) h W1 m x) = p
    pointwise [stepH, k0_pay91, k0_pay85, k0_pay86, k0_pay87, k0_pay83]
    rw [← hp]
    rfl
  rw [e, stepC_apply N k W1 W2 hW m hm x hx h c hs hh b j]
  have hmb := hm b
  unfold isSet at hmb
  simp only [hx, hh, hW.o0, hW.o1]
  unfold newH Net.z Net.inp
  by_cases ho : N.odd k b
  · simp only [if_pos ho]
    split_ifs with h1
    · simp only [gate_eq]
    · exact absurd (hmb.2 ho) h1
  · simp only [if_neg ho]
    split_ifs with h1
    · exact absurd (hmb.1 h1) ho
    · simp only [gate_eq]

end

end Cert.Lstm

end
-- ==== Proof.Prep.lean ====
module

public import proofs.«01_k».proof.Proof.Cell

@[expose] public section

/-! # What the scratch holds, and a whole point

The prepared scratch read at an index, and by induction the states of a point's steps. -/

set_option maxRecDepth 16384

noncomputable section

namespace Cert.Lstm

open Idealize.ShloMosaic Idealize.ShloMosaic.TcCoe
open Cert.KernelIdeal Cert.KernelIdeal.Gen

/-- What a point needs of the scratch it finds. -/
structure Scratch (N : Net) (wx wh : FVec Ideal S4096x512 .bf16) (bx : FVec Ideal S1x4096 .f32) (mk : FVec Ideal S32x64x1 .f32) : Prop where
  rows : Rows N (upper (F := Ideal) wh) (lower (F := Ideal) wh)
  wx0 : ∀ (g : Fin 2048) y, wx (ix2 ⟨g.val, by omega⟩ y) = N.W0 g y
  wx1 : ∀ (g : Fin 2048) y, wx (ix2 ⟨2048 + g.val, by omega⟩ y) = N.W1 g y
  bx0 : ∀ g : Fin 2048, bx (ix2 0 ⟨g.val, by omega⟩) = N.p0 g + N.q0 g
  bx1 : ∀ g : Fin 2048, bx (ix2 0 ⟨2048 + g.val, by omega⟩) = N.p1 g + N.q1 g
  mask : ∀ (n : Fin 32) b, isSet (mk (ix3 n b 0)) ↔ N.odd n b

/-- The mask row of step `k` of a point is the row of that step in the whole mask. -/
theorem maskRow_apply (i : grid0.Coords) (mk : FVec Ideal S32x64x1 .f32) (k : Fin 16) (b : Fin 64) (hn : 16 * (i 0).val + k.val < 32) :
    maskRow (F := Ideal) i mk k (ix3 0 b 0) = mk (ix3 ⟨16 * (i 0).val + k.val, hn⟩ b 0) := by
  show mk ((rowM i k).idx (ix3 0 b 0)) = _
  congr 1
  have h := k0_off1_eq i k
  funext a
  apply Fin.ext
  show k0_off1 i (BitVec.ofNat 32 k.val) a + 1 * ((ix3 (0 : Fin 1) b (0 : Fin 1) : S1x64x1.Idx) a).val = _
  rw [h]
  fin_cases a
  · show 16 * (i 0).val + k.val + 1 * 0 = _; rfl
  · show 0 + 1 * b.val = b.val; omega
  · rfl

/-- One more step of a point, unfolded. -/
theorem point_succ (i : grid0.Coords) (wx wh : FVec Ideal S4096x512 .bf16) (bx : FVec Ideal S1x4096 .f32) (mk : FVec Ideal S32x64x1 .f32)
    (x : FVec Ideal S16x64x512 .f32) (h c : FVec Ideal S64x512 .f32) (n : ℕ) :
    point (F := Ideal) i wx wh bx mk x h c (n + 1) =
      (stepH (F := Ideal) (upper (F := Ideal) wh) (lower (F := Ideal) wh) (maskRow (F := Ideal) i mk (row n))
        (pick (F := Ideal) (row n) (k0_pay21 (F := Ideal) x wx bx) (maskRow (F := Ideal) i mk (row n)))
        (point (F := Ideal) i wx wh bx mk x h c n).1 (point (F := Ideal) i wx wh bx mk x h c n).2,
       stepC (F := Ideal) (upper (F := Ideal) wh) (lower (F := Ideal) wh) (maskRow (F := Ideal) i mk (row n))
        (pick (F := Ideal) (row n) (k0_pay21 (F := Ideal) x wx bx) (maskRow (F := Ideal) i mk (row n)))
        (point (F := Ideal) i wx wh bx mk x h c n).1 (point (F := Ideal) i wx wh bx mk x h c n).2) := rfl

section
variable (N : Net) (i : grid0.Coords) (wx wh : FVec Ideal S4096x512 .bf16) (bx : FVec Ideal S1x4096 .f32) (mk : FVec Ideal S32x64x1 .f32)
  (S : Scratch N wx wh bx mk) (x : FVec Ideal S16x64x512 .f32)
  (hx : ∀ (k : Fin 16) b y (hn : 16 * (i 0).val + k.val < 32), x (ix3 k b y) = N.x ⟨16 * (i 0).val + k.val, hn⟩ b y)
  (h c : FVec Ideal S64x512 .f32)
  (hh : ∀ b j, h (ix2 b j) = (N.traj (16 * (i 0).val)).1 b j) (hc : ∀ b j, c (ix2 b j) = (N.traj (16 * (i 0).val)).2 b j)

include S hx in
/-- The projection that a step picks is the input's part of the gate of the cell its token names. -/
theorem pick_inp (k : Fin 16) (hn : 16 * (i 0).val + k.val < 32) (b : Fin 64) (g : Fin 2048) :
    pick (F := Ideal) k (k0_pay21 (F := Ideal) x wx bx) (maskRow (F := Ideal) i mk k) (ix3 0 b g) = N.inp ⟨16 * (i 0).val + k.val, hn⟩ b g := by
  rw [pick_apply, maskRow_apply i mk k b hn, proj_apply, proj_apply, S.bx0, S.bx1]
  simp only [S.wx0, S.wx1, hx _ _ _ hn]
  unfold Net.inp
  have hm := S.mask ⟨16 * (i 0).val + k.val, hn⟩ b
  by_cases ho : N.odd ⟨16 * (i 0).val + k.val, hn⟩ b
  · rw [if_pos ho, if_pos (hm.2 ho)]
  · rw [if_neg ho, if_neg (fun e => ho (hm.1 e))]

include S hx hh hc in
/-- After `n` steps of a point the state is the recurrence's. -/
theorem point_traj : ∀ n, n ≤ 16 → ∀ b j,
    (point (F := Ideal) i wx wh bx mk x h c n).1 (ix2 b j) = (N.traj (16 * (i 0).val + n)).1 b j ∧
    (point (F := Ideal) i wx wh bx mk x h c n).2 (ix2 b j) = (N.traj (16 * (i 0).val + n)).2 b j := by
  intro n
  induction n with
  | zero => intro _ b j; exact ⟨hh b j, hc b j⟩
  | succ n ih =>
    intro hn b j
    have hi : (i 0).val < 2 := (i 0).isLt
    have IH := ih (by omega)
    have hr : (row n).val = n := Nat.mod_eq_of_lt (by omega)
    have hk : 16 * (i 0).val + (row n).val < 32 := by omega
    have hkk : (⟨16 * (i 0).val + (row n).val, hk⟩ : Fin 32) = ⟨(16 * (i 0).val + n) % 32, Nat.mod_lt _ (by decide)⟩ := by
      apply Fin.ext
      show 16 * (i 0).val + (row n).val = (16 * (i 0).val + n) % 32
      omega
    have hx' := pick_inp N i wx wh bx mk S x hx (row n) hk
    have hm' : ∀ b, isSet (maskRow (F := Ideal) i mk (row n) (ix3 0 b 0)) ↔ N.odd ⟨16 * (i 0).val + (row n).val, hk⟩ b := by
      intro b
      rw [maskRow_apply i mk (row n) b hk]
      exact S.mask _ b
    have key := fun b j => (IH b j).1
    rw [point_succ]
    constructor
    · refine (stepH_apply N _ _ _ S.rows _ hm' _ hx' _ _ _ key b j).trans ?_
      rw [(IH b j).2, hkk]
      rfl
    · refine (stepC_apply N _ _ _ S.rows _ hm' _ hx' _ _ _ key b j).trans ?_
      rw [(IH b j).2, hkk]
      rfl

end

/-! ## The prepared scratch -/

/-- The input weights stacked: cell 0's rows, then cell 1's. -/
theorem canon_wx (a b : FVec Ideal S2048x512 .f32) (q : Fin 2) (g : Fin 2048) (y : Fin 512) (hq : 2048 * q.val + g.val < 4096) :
    View.canon (prepWx (F := Ideal) a b) (ix2 ⟨2048 * q.val + g.val, hq⟩ y : S4096x512.Idx) = (![a, b] q) (ix2 g y) := by
  unfold prepWx
  canon_tiles x h
  all_goals
    change 2048 * q.val + g.val = _ at h0
    change y.val = _ at h1
    have e : x = ix2 ⟨(x 0).val, x0_lt⟩ y := (eq_ix2 x).trans (by congr 1; exact Fin.ext h1.symm)
    revert h0 e
    fin_cases q <;> intro h0 e
  all_goals first
    | (exfalso; change 2048 * 0 + g.val = _ at h0; omega)
    | (exfalso; change 2048 * 1 + g.val = _ at h0; omega)
    | (have hg : (⟨(x 0).val, x0_lt⟩ : Fin 2048) = g := Fin.ext (by dsimp at h0 ⊢; omega)
       rw [e, hg]
       pointwise [k0_pay6, k0_pay7])

/-- The hidden weights interleaved by quarters. -/
theorem canon_wh (a b : Fin 4 → FVec Ideal S512x512 .f32) (q : Fin 8) (g y : Fin 512) (hq : 512 * q.val + g.val < 4096) :
    View.canon (prepWh (F := Ideal) a b) (ix2 ⟨512 * q.val + g.val, hq⟩ y : S4096x512.Idx) =
      (![a 0, b 0, a 2, b 2, a 1, b 1, a 3, b 3] q) (ix2 g y) := by
  unfold prepWh
  canon_tiles x h
  all_goals
    change 512 * q.val + g.val = _ at h0
    change y.val = _ at h1
    obtain ⟨z, hz, e⟩ : ∃ z : Fin 512, z.val = (x 0).val ∧ x = ix2 z y :=
      ⟨⟨(x 0).val, x0_lt⟩, rfl, (eq_ix2 x).trans (by congr 1; exact Fin.ext h1.symm)⟩
    have hl := g.isLt
    have hzl := z.isLt
    rw [← hz] at h0
    rw [e]
    pointwise [k0_pay8, k0_pay9, k0_pay10, k0_pay11, k0_pay12, k0_pay13, k0_pay14, k0_pay15, k0_pay16]
    clear e h1 hq hz x0_lt
    have hql := q.isLt
    interval_cases hqv : q.val
  all_goals first
    | (exfalso; omega)
    | (have hg : z = g := Fin.ext (by omega)
       have hz := (Fin.ext hqv : q = ⟨_, by decide⟩)
       rw [hg, hz]
       rfl)

/-- The summed biases side by side: cell 0's, then cell 1's. -/
theorem canon_bx (a b c d : FVec Ideal S1x2048 .f32) (q : Fin 2) (g : Fin 2048) (hq : 2048 * q.val + g.val < 4096) :
    View.canon (prepBx (F := Ideal) a b c d) (ix2 0 ⟨2048 * q.val + g.val, hq⟩ : S1x4096.Idx) =
      (![a, c] q) (ix2 0 g) + (![b, d] q) (ix2 0 g) := by
  unfold prepBx
  canon_tiles x h
  all_goals
    change 2048 * q.val + g.val = _ at h1
    obtain ⟨z, hz, e⟩ : ∃ z : Fin 2048, z.val = (x 1).val ∧ x = ix2 0 z :=
      ⟨⟨(x 1).val, x1_lt⟩, rfl, (eq_ix2 x).trans (by congr 1; exact Fin.ext (by show (x 0).val = 0; omega))⟩
    have hl := g.isLt
    have hzl := z.isLt
    rw [← hz] at h1
    rw [e]
    pointwise [k0_pay17, k0_pay18, k0_pay19]
    clear e h0 hq hz x1_lt
    have hql := q.isLt
    interval_cases hqv : q.val
  all_goals first
    | (exfalso; omega)
    | (have hg : z = g := Fin.ext (by omega)
       have hz := (Fin.ext hqv : q = ⟨_, by decide⟩)
       rw [hg, hz]
       rfl)

/-- The threshold of the mask is one half. -/
theorem half_f32 : Ideal.ofBits FTy.f32 1056964608#32 = (((1 : ℝ) / 2 : ℝ) : EReal) := by
  simp [Ideal.ofBits, Ideal.ieee, -EReal.coe_mul]; norm_num

/-- One lies above the threshold. -/
theorem half_lt_one : Ideal.ofBits FTy.f32 1056964608#32 < (FloatOps.sitofp FTy.f32 1#32 : Ideal .f32) := by
  rw [half_f32]
  show _ < ((((1#32 : BitVec 32).toInt : ℤ) : ℝ) : EReal)
  rw [EReal.coe_lt_coe_iff]
  norm_num

/-- Zero does not lie above the threshold. -/
theorem zero_le_half : (FloatOps.sitofp FTy.f32 0#32 : Ideal .f32) ≤ Ideal.ofBits FTy.f32 1056964608#32 := by
  rw [half_f32]
  show ((((0#32 : BitVec 32).toInt : ℤ) : ℝ) : EReal) ≤ _
  rw [EReal.coe_le_coe_iff]
  norm_num

/-- A token passes the threshold exactly when it is odd. -/
theorem parity (t : IVec S64x32 32) (n : Fin 32) (b : Fin 64) :
    isSet (k0_pay20 (F := Ideal) t (ix3 n b 0)) ↔ oddTok (t (ix2 b n)) := by
  unfold isSet
  pointwise [k0_pay20]
  generalize t (ix2 b n) = w
  unfold oddTok
  rcases srem_two w with ⟨e, h⟩ | ⟨e, h⟩ | ⟨e, h⟩
  · simp [IntOp.remsi, IntOp.SDivCorner, Scalar.select, Scalar.cmpi, IntOp.cmpi, IntOp.andi, IntOp.xori, IntOp.addi, e, h]
    exact zero_le_half
  · simp [IntOp.remsi, IntOp.SDivCorner, Scalar.select, Scalar.cmpi, IntOp.cmpi, IntOp.andi, IntOp.xori, IntOp.addi, e, h]
    exact half_lt_one
  · simp [IntOp.remsi, IntOp.SDivCorner, Scalar.select, Scalar.cmpi, IntOp.cmpi, IntOp.andi, IntOp.xori, IntOp.addi, e, h]
    exact half_lt_one

/-- The mask buffer holds the prepared parities. -/
theorem canon_mask (t : IVec S64x32 32) : View.canon (prepMask (F := Ideal) t) = k0_pay20 (F := Ideal) t := by
  unfold prepMask
  exact View.canon_cons_unit_lit _ _ _ (by decide)

/-- What a point needs of the blocks it prepares the scratch from. -/
structure Blocks (N : Net) (x0 : IVec S64x32 32) (x2 x3 x4 x5 : FVec Ideal S2048x512 .f32) (x6 x7 x8 x9 : FVec Ideal S1x2048 .f32) : Prop where
  tok : ∀ (n : Fin 32) b, oddTok (x0 (ix2 b n)) ↔ N.odd n b
  W0 : ∀ g y, x2 (ix2 g y) = N.W0 g y
  W1 : ∀ g y, x3 (ix2 g y) = N.W1 g y
  U0 : ∀ g y, x4 (ix2 g y) = N.U0 g y
  U1 : ∀ g y, x5 (ix2 g y) = N.U1 g y
  p0 : ∀ g, x6 (ix2 0 g) = N.p0 g
  q0 : ∀ g, x7 (ix2 0 g) = N.q0 g
  p1 : ∀ g, x8 (ix2 0 g) = N.p1 g
  q1 : ∀ g, x9 (ix2 0 g) = N.q1 g

/-- A quarter of a weight matrix at an index. -/
theorem block_apply (w : FVec Ideal S2048x512 .f32) (q : Fin 4) (g y : Fin 512) (hq : 512 * q.val + g.val < 2048) :
    block (F := Ideal) w q (ix2 g y) = w (ix2 ⟨512 * q.val + g.val, hq⟩ y) := by
  show w ((rowsQ q).idx (ix2 g y)) = _
  congr 1
  funext a
  apply Fin.ext
  fin_cases a
  · show 512 * q.val + 1 * g.val = 512 * q.val + g.val; omega
  · show 0 + 1 * y.val = y.val; omega

/-- The first half at an index. -/
theorem upper_apply (w : FVec Ideal S4096x512 .bf16) (r : Fin 2048) (y : Fin 512) : upper (F := Ideal) w (ix2 r y) = w (ix2 ⟨r.val, by omega⟩ y) := by
  show w (halfW1.idx (ix2 r y)) = _
  congr 1
  funext a
  apply Fin.ext
  fin_cases a
  · show 0 + 1 * r.val = r.val; omega
  · show 0 + 1 * y.val = y.val; omega

/-- The second half at an index. -/
theorem lower_apply (w : FVec Ideal S4096x512 .bf16) (r : Fin 2048) (y : Fin 512) : lower (F := Ideal) w (ix2 r y) = w (ix2 ⟨2048 + r.val, by omega⟩ y) := by
  show w (halfW2.idx (ix2 r y)) = _
  congr 1
  funext a
  apply Fin.ext
  fin_cases a
  · show 2048 + 1 * r.val = 2048 + r.val; omega
  · show 0 + 1 * y.val = y.val; omega

/-- Row block `q` of the prepared recurrent weights, against a gate's rows. -/
theorem wh_row (a b : FVec Ideal S2048x512 .f32) (q : Fin 8) (p : Fin 4) (w : FVec Ideal S2048x512 .f32)
    (hw : (![block (F := Ideal) a 0, block (F := Ideal) b 0, block (F := Ideal) a 2, block (F := Ideal) b 2, block (F := Ideal) a 1,
      block (F := Ideal) b 1, block (F := Ideal) a 3, block (F := Ideal) b 3] : Fin 8 → FVec Ideal S512x512 .f32) q = block (F := Ideal) w p)
    (g y : Fin 512) (r : Fin 4096) (hr : r.val = 512 * q.val + g.val) (s : Fin 2048) (hs : s.val = 512 * p.val + g.val) :
    View.canon (prepWh (F := Ideal) (block (F := Ideal) a) (block (F := Ideal) b)) (ix2 r y : S4096x512.Idx) = w (ix2 s y) := by
  have b1 : 512 * q.val + g.val < 4096 := by omega
  have b2 : 512 * p.val + g.val < 2048 := by omega
  have er : r = ⟨512 * q.val + g.val, b1⟩ := Fin.ext hr
  have es : s = ⟨512 * p.val + g.val, b2⟩ := Fin.ext hs
  rw [er, es, canon_wh _ _ q g y b1, hw, block_apply w p g y b2]

/-- The prepared scratch is what the steps need. -/
theorem scratch_prep (N : Net) (x0 : IVec S64x32 32) (x2 x3 x4 x5 : FVec Ideal S2048x512 .f32) (x6 x7 x8 x9 : FVec Ideal S1x2048 .f32)
    (B : Blocks N x0 x2 x3 x4 x5 x6 x7 x8 x9) :
    Scratch N (View.canon (prepWx (F := Ideal) x2 x3)) (View.canon (prepWh (F := Ideal) (block (F := Ideal) x4) (block (F := Ideal) x5)))
      (View.canon (prepBx (F := Ideal) x6 x7 x8 x9)) (View.canon (prepMask (F := Ideal) x0)) where
  rows :=
    { i0 := fun j y => (upper_apply _ _ _).trans ((wh_row x4 x5 0 0 x4 rfl j y _ (by simp) _ (by simp)).trans (B.U0 _ _))
      i1 := fun j y => (upper_apply _ _ _).trans ((wh_row x4 x5 1 0 x5 rfl j y _ (by simp) _ (by simp)).trans (B.U1 _ _))
      g0 := fun j y => (upper_apply _ _ _).trans ((wh_row x4 x5 2 2 x4 rfl j y _ (by simp) _ (by simp)).trans (B.U0 _ _))
      g1 := fun j y => (upper_apply _ _ _).trans ((wh_row x4 x5 3 2 x5 rfl j y _ (by simp) _ (by simp)).trans (B.U1 _ _))
      f0 := fun j y => (lower_apply _ _ _).trans ((wh_row x4 x5 4 1 x4 rfl j y _ (by simp) _ (by simp)).trans (B.U0 _ _))
      f1 := fun j y => (lower_apply _ _ _).trans ((wh_row x4 x5 5 1 x5 rfl j y _ (by show 2048 + (512 + j.val) = 512 * 5 + j.val; omega) _ (by simp)).trans (B.U1 _ _))
      o0 := fun j y => (lower_apply _ _ _).trans ((wh_row x4 x5 6 3 x4 rfl j y _ (by show 2048 + (1024 + j.val) = 512 * 6 + j.val; omega) _ (by simp)).trans (B.U0 _ _))
      o1 := fun j y => (lower_apply _ _ _).trans ((wh_row x4 x5 7 3 x5 rfl j y _ (by show 2048 + (1536 + j.val) = 512 * 7 + j.val; omega) _ (by simp)).trans (B.U1 _ _)) }
  wx0 := fun g y => (congrArg _ (by congr 1; exact Fin.ext (by simp))).trans ((canon_wx x2 x3 0 g y (by omega)).trans (B.W0 _ _))
  wx1 := fun g y => (canon_wx x2 x3 1 g y (by omega)).trans (B.W1 _ _)
  bx0 := fun g => (congrArg _ (by congr 1; exact Fin.ext (by simp))).trans ((canon_bx x6 x7 x8 x9 0 g (by omega)).trans (congrArg₂ _ (B.p0 g) (B.q0 g)))
  bx1 := fun g => (canon_bx x6 x7 x8 x9 1 g (by omega)).trans (congrArg₂ _ (B.p1 g) (B.q1 g))
  mask := fun n b => by rw [canon_mask, parity, B.tok]

end Cert.Lstm

end
-- ==== Proof.KValue.lean ====
module

public import proofs.«01_k».proof.Proof.RunA
public import proofs.«01_k».proof.Proof.RunB
public import proofs.«01_k».proof.Proof.Prep

@[expose] public section

/-! # What the kernel leaves, index by index

The recurrence over the entry arrays, the windows' blocks as reads of those arrays, and the three results. -/

set_option maxRecDepth 16384

noncomputable section

namespace Cert.Lstm

open Idealize.ShloMosaic Idealize.ShloMosaic.TcCoe
open Cert.KernelIdeal Cert.KernelIdeal.Gen Cert.KernelIdeal.Value

variable (m : (ℓ : Loc nD τ sig) → Buf (Elt Ideal) ℓ) (c : Dev nD)

/-- The recurrence over the arrays a core starts with. -/
def netK : Net where
  W0 := fun g y => m ((c : Thread nD τ).loc main_arg2) (ix2 g y)
  U0 := fun g y => m ((c : Thread nD τ).loc main_arg3) (ix2 g y)
  p0 := fun g => m ((c : Thread nD τ).loc main_arg4) (ix1 g)
  q0 := fun g => m ((c : Thread nD τ).loc main_arg5) (ix1 g)
  W1 := fun g y => m ((c : Thread nD τ).loc main_arg6) (ix2 g y)
  U1 := fun g y => m ((c : Thread nD τ).loc main_arg7) (ix2 g y)
  p1 := fun g => m ((c : Thread nD τ).loc main_arg8) (ix1 g)
  q1 := fun g => m ((c : Thread nD τ).loc main_arg9) (ix1 g)
  x := fun k b y => m ((c : Thread nD τ).loc main_arg1) (ix3 k b y)
  odd := fun k b => oddTok (m ((c : Thread nD τ).loc main_arg0) (ix2 b k))

/-- Which block of each input a point sees. -/
theorem index_in : ∀ t : Fin cfg0.N, win0_0.index t = ![0, 0] ∧ win0_1.index t = ![(grid0.coords t 0).val, 0, 0] ∧ win0_2.index t = ![0, 0] ∧
    win0_3.index t = ![0, 0] ∧ win0_4.index t = ![0, 0] ∧ win0_5.index t = ![0, 0] ∧ win0_6.index t = ![0, 0] ∧ win0_7.index t = ![0, 0] ∧
    win0_8.index t = ![0, 0] ∧ win0_9.index t = ![0, 0] :=
  (by decide +kernel : ∀ t : Fin grid0.N, _)

/-- A point's coordinate is its number. -/
theorem coords_val : ∀ t : Fin cfg0.N, (grid0.coords t 0).val = t.val := (by decide +kernel : ∀ t : Fin grid0.N, _)

/-- The blocks a point sees are the network's arrays. -/
theorem blocks_iblk (t : Fin cfg0.N) : Blocks (netK m c) (iblk m c 0 t) (iblk m c 2 t) (iblk m c 3 t) (iblk m c 4 t) (iblk m c 5 t)
    (iblk m c 6 t) (iblk m c 7 t) (iblk m c 8 t) (iblk m c 9 t) where
  tok := fun n b => by
    have e : iblk m c 0 t (ix2 b n) = m ((c : Thread nD τ).loc main_arg0) (ix2 b n) := by blk_ext [iblk, V, index_in t]
    rw [e]; rfl
  W0 := fun g y => by unfold netK; blk_ext [iblk, V, index_in t]
  W1 := fun g y => by unfold netK; blk_ext [iblk, V, index_in t]
  U0 := fun g y => by unfold netK; blk_ext [iblk, V, index_in t]
  U1 := fun g y => by unfold netK; blk_ext [iblk, V, index_in t]
  p0 := fun g => by unfold netK; blk_simp [iblk, index_in t]; entry_read; pointwise; blk_ext [index_in t]
  q0 := fun g => by unfold netK; blk_simp [iblk, index_in t]; entry_read; pointwise; blk_ext [index_in t]
  p1 := fun g => by unfold netK; blk_simp [iblk, index_in t]; entry_read; pointwise; blk_ext [index_in t]
  q1 := fun g => by unfold netK; blk_simp [iblk, index_in t]; entry_read; pointwise; blk_ext [index_in t]

/-- The input block of a point holds its sixteen steps' inputs. -/
theorem x_iblk (t : Fin cfg0.N) (k : Fin 16) (b : Fin 64) (y : Fin 512) (hn : 16 * ((grid0.coords t) 0).val + k.val < 32) :
    iblk m c 1 t (ix3 k b y) = (netK m c).x ⟨16 * ((grid0.coords t) 0).val + k.val, hn⟩ b y := by
  unfold netK
  blk_ext [iblk, V, index_in t]

/-- The tuple a grid point leaves: its three outputs, then the scratch it carries on. -/
abbrev Left : Type := Vec Ideal S16x64x512 .f32 × Vec Ideal S64x512 .f32 × Vec Ideal S64x512 .f32 × Vec Ideal S4096x512 .bf16 ×
  Vec Ideal S4096x512 .bf16 × Vec Ideal S1x4096 .f32 × Vec Ideal S32x64x1 .f32 × Vec Ideal S64x512 .f32 × Vec Ideal S64x512 .f32

/-- What grid point `t` leaves is the recurrence's. -/
structure Leaves (N : Net) (t : ℕ) (s : Left) : Prop where
  out : ∀ (k : Fin 16) b j, s.1 (ix3 k b j) = (N.traj (16 * t + (k.val + 1))).1 b j
  hF : ∀ b j, s.2.1 (ix2 b j) = (N.traj (16 * t + 16)).1 b j
  cF : ∀ b j, s.2.2.1 (ix2 b j) = (N.traj (16 * t + 16)).2 b j
  scr : Scratch N s.2.2.2.1 s.2.2.2.2.1 s.2.2.2.2.2.1 s.2.2.2.2.2.2.1
  h : ∀ b j, s.2.2.2.2.2.2.2.1 (ix2 b j) = (N.traj (16 * t + 16)).1 b j
  c : ∀ b j, s.2.2.2.2.2.2.2.2 (ix2 b j) = (N.traj (16 * t + 16)).2 b j

/-- States that follow the recurrence give what the point leaves. -/
theorem leaves_of (N : Net) (t : ℕ) (wx wh : FVec Ideal S4096x512 .bf16) (bx : FVec Ideal S1x4096 .f32)
    (mk : FVec Ideal S32x64x1 .f32) (S : Scratch N wx wh bx mk) (s : ℕ → FVec Ideal S64x512 .f32 × FVec Ideal S64x512 .f32)
    (P : ∀ n, n ≤ 16 → ∀ b j, (s n).1 (ix2 b j) = (N.traj (16 * t + n)).1 b j ∧ (s n).2 (ix2 b j) = (N.traj (16 * t + n)).2 b j) :
    Leaves N t (View.canon (Val := Elt Ideal) (e := .f32) (piecesOut (F := Ideal) fun n => (s n).1), (s 16).1, (s 16).2, wx, wh, bx, mk, (s 16).1, (s 16).2) where
  out := by
    intro k b j
    have h := (P (k.val + 1) (by omega) b j).1
    dsimp only
    rw [canon_out]
    exact h
  hF := fun b j => (P 16 le_rfl b j).1
  cF := fun b j => (P 16 le_rfl b j).2
  scr := S
  h := fun b j => (P 16 le_rfl b j).1
  c := fun b j => (P 16 le_rfl b j).2

/-- `point_traj` with the point's number for its coordinate. -/
theorem point_traj_at (N : Net) (i : grid0.Coords) (t : ℕ) (ht : (i 0).val = t) (wx wh : FVec Ideal S4096x512 .bf16) (bx : FVec Ideal S1x4096 .f32)
    (mk : FVec Ideal S32x64x1 .f32) (S : Scratch N wx wh bx mk) (x : FVec Ideal S16x64x512 .f32)
    (hx : ∀ (k : Fin 16) b y (hn : 16 * (i 0).val + k.val < 32), x (ix3 k b y) = N.x ⟨16 * (i 0).val + k.val, hn⟩ b y)
    (h c : FVec Ideal S64x512 .f32) (hh : ∀ b j, h (ix2 b j) = (N.traj (16 * t)).1 b j) (hc : ∀ b j, c (ix2 b j) = (N.traj (16 * t)).2 b j) :
    ∀ n, n ≤ 16 → ∀ b j, (point (F := Ideal) i wx wh bx mk x h c n).1 (ix2 b j) = (N.traj (16 * t + n)).1 b j ∧
      (point (F := Ideal) i wx wh bx mk x h c n).2 (ix2 b j) = (N.traj (16 * t + n)).2 b j := by
  subst ht
  exact point_traj N i wx wh bx mk S x hx h c hh hc

/-- The hidden state starts at zero. -/
theorem zero_h (b : Fin 64) (j : Fin 512) : k0_pay4 (F := Ideal) (ix2 b j) = 0 := by pointwise [k0_pay4]

/-- The cell state starts at zero. -/
theorem zero_c (b : Fin 64) (j : Fin 512) : k0_pay5 (F := Ideal) (ix2 b j) = 0 := by pointwise [k0_pay5]

/-- The first point. -/
theorem leaves_A (n : ℕ) (hn : n < cfg0.N) (h0 : n % 2 = 0) (acc : Left) : Leaves (netK m c) 0 (stAt0 m c n hn acc) := by
  have h2 : n < 2 := hn
  have hz : ((grid0.coords ⟨n, hn⟩) 0).val = 0 := (coords_val ⟨n, hn⟩).trans (by show n = 0; omega)
  have e := stAt0_A m c ⟨n, hn⟩ acc h0
  rw [outA_10, outA_11, outA_12, soutA_0, soutA_1, soutA_2, soutA_3, soutA_5, soutA_6] at e
  refine (congrArg (Leaves (netK m c) 0) e).mpr ?_
  have S := scratch_prep _ _ _ _ _ _ _ _ _ _ (blocks_iblk m c ⟨n, hn⟩)
  have P := point_traj_at (netK m c) (grid0.coords ⟨n, hn⟩) 0 hz _ _ _ _ S _ (x_iblk m c ⟨n, hn⟩) _ _ zero_h zero_c
  exact leaves_of (netK m c) 0 _ _ _ _ S _ P

/-- The second point. -/
theorem leaves_B (n : ℕ) (hn : n < cfg0.N) (h0 : ¬ n % 2 = 0) (acc : Left) (L : Leaves (netK m c) 0 acc) :
    Leaves (netK m c) 1 (stAt0 m c n hn acc) := by
  have h2 : n < 2 := hn
  have hz : ((grid0.coords ⟨n, hn⟩) 0).val = 1 := (coords_val ⟨n, hn⟩).trans (by show n = 1; omega)
  have e := stAt0_B m c ⟨n, hn⟩ acc h0
  rw [outB_10, outB_11, outB_12, soutB_5, soutB_6] at e
  refine (congrArg (Leaves (netK m c) 1) e).mpr ?_
  have P := point_traj_at (netK m c) (grid0.coords ⟨n, hn⟩) 1 hz _ _ _ _ L.scr _ (x_iblk m c ⟨n, hn⟩) _ _ L.h L.c
  exact leaves_of (netK m c) 1 _ _ _ _ L.scr _ P

/-- The grid has two points. -/
theorem N_two : cfg0.N = 2 := N_0

/-- What the two points leave. -/
theorem leaves_acc (n : ℕ) (hn : 0 + n < cfg0.N) :
    Leaves (netK m c) n (Pipeline.accAt (fun n h => stAt0 m c n h junk0) (stAt0 m c) 0 n hn) := by
  have h2 : n < 2 := by have := N_two; omega
  have hn' : n < cfg0.N := by omega
  have e : Pipeline.accAt (fun n h => stAt0 m c n h junk0) (stAt0 m c) 0 n hn = outsAt0 m c n hn' := (outsAt0_sweep m c n hn').symm
  rw [e]
  clear e
  have hz : (0 : ℕ) < cfg0.N := by rw [N_two]; decide
  have h1 : Leaves (netK m c) 0 (outsAt0 m c 0 hz) := by
    rw [outsAt0_zero]
    exact leaves_A m c 0 hz rfl _
  interval_cases n
  · exact h1
  · rw [outsAt0_succ]
    exact leaves_B m c 1 hn' (by decide) _ h1

/-- The kernel's sequence of hidden states. -/
theorem out_K (n : Fin 32) (b : Fin 64) (j : Fin 512) : G10 m c (ix3 n b j) = ((netK m c).traj (n.val + 1)).1 b j := by
  have hp : pt10Of (ix3 n b j) = n.val / 16 := by
    show 1 * (n.val / 16 - 0) + 1 * (b.val / 64 - 0) + 1 * (j.val / 512 - 0) = _
    omega
  have hN := N_two
  have hlt : pt10Of (ix3 n b j) < cfg0.N := by rw [hp]; omega
  have hl : loc10Of (ix3 n b j) = ix3 ⟨n.val % 16, Nat.mod_lt _ (by decide)⟩ b j := by
    funext a; apply Fin.ext
    match a with
    | ⟨0, _⟩ => rfl
    | ⟨1, _⟩ => show b.val % 64 = b.val; omega
    | ⟨2, _⟩ => show j.val % 512 = j.val; omega
  unfold G10
  rw [dif_pos hlt, hl, (leaves_acc m c _ _).out, hp]
  have e : 16 * (n.val / 16) + (n.val % 16 + 1) = n.val + 1 := by omega
  exact congrArg (fun k => ((netK m c).traj k).1 b j) e

/-- The kernel's final hidden state. -/
theorem h_K (b : Fin 64) (j : Fin 512) : G11 m c (ix2 b j) = ((netK m c).traj 32).1 b j := by
  rw [G11_last]
  exact (leaves_acc m c 1 _).hF b j

/-- The kernel's final cell state. -/
theorem c_K (b : Fin 64) (j : Fin 512) : G12 m c (ix2 b j) = ((netK m c).traj 32).2 b j := by
  rw [G12_last]
  exact (leaves_acc m c 1 _).cF b j

end Cert.Lstm

end
-- ==== Proof.RefStep.lean ====
module

public import proofs.«01_k».proof.Proof.Gen.ReferenceIdeal.Run
public import proofs.«01_k».proof.Proof.Spec
public import Idealize.ShloMosaic.Lib.DynamicIndex

@[expose] public section

/-! # One trip of the reference's loop

The loop's buffers read at an index, and one trip as one step of the recurrence. -/

set_option maxRecDepth 16384

noncomputable section

namespace Cert.Lstm

open Idealize.ShloMosaic Idealize.ShloMosaic.TcCoe
open Cert.ReferenceIdeal Cert.ReferenceIdeal.Gen Cert.ReferenceIdeal.Value

/-- What the loop's buffers hold before trip `n`. -/
structure Holds (N : Net) (n : ℕ) (V : Valuation τ sig (Elt Ideal)) : Prop where
  tok : ∀ (k : Fin 32) (b : Fin 64), oddTok ((V (Proc.devRef .tc main_v4_0) : IVec S32x64 32) (ix2 k b)) ↔ N.odd k b
  x : ∀ (k : Fin 32) (b : Fin 64) (y : Fin 512), (V (Proc.devRef .tc main_v4_1) : FVec Ideal S32x64x512 .f32) (ix3 k b y) = N.x k b y
  W0 : ∀ (g : Fin 2048) (y : Fin 512), (V (Proc.devRef .tc main_v4_2) : FVec Ideal S2048x512 .f32) (ix2 g y) = N.W0 g y
  p0 : ∀ g : Fin 2048, (V (Proc.devRef .tc main_v4_3) : FVec Ideal S2048 .f32) (ix1 g) = N.p0 g
  U0 : ∀ (g : Fin 2048) (y : Fin 512), (V (Proc.devRef .tc main_v4_4) : FVec Ideal S2048x512 .f32) (ix2 g y) = N.U0 g y
  q0 : ∀ g : Fin 2048, (V (Proc.devRef .tc main_v4_5) : FVec Ideal S2048 .f32) (ix1 g) = N.q0 g
  W1 : ∀ (g : Fin 2048) (y : Fin 512), (V (Proc.devRef .tc main_v4_6) : FVec Ideal S2048x512 .f32) (ix2 g y) = N.W1 g y
  p1 : ∀ g : Fin 2048, (V (Proc.devRef .tc main_v4_7) : FVec Ideal S2048 .f32) (ix1 g) = N.p1 g
  U1 : ∀ (g : Fin 2048) (y : Fin 512), (V (Proc.devRef .tc main_v4_8) : FVec Ideal S2048x512 .f32) (ix2 g y) = N.U1 g y
  q1 : ∀ g : Fin 2048, (V (Proc.devRef .tc main_v4_9) : FVec Ideal S2048 .f32) (ix1 g) = N.q1 g
  ctr : V (Proc.devRef .tc main_v4_10) = fun _ => (BitVec.ofNat 32 n : BitVec 32)
  h : ∀ (b : Fin 64) (j : Fin 512), (V (Proc.devRef .tc main_v4_11) : FVec Ideal S64x512 .f32) (ix2 b j) = (N.traj n).1 b j
  c : ∀ (b : Fin 64) (j : Fin 512), (V (Proc.devRef .tc main_v4_12) : FVec Ideal S64x512 .f32) (ix2 b j) = (N.traj n).2 b j
  out : ∀ (k : Fin 32) (b : Fin 64) (j : Fin 512), k.val < n →
    (V (Proc.devRef .tc main_v4_13) : FVec Ideal S32x64x512 .f32) (ix3 k b j) = (N.traj (k.val + 1)).1 b j

/-- A trip number as a word reads back as itself. -/
theorem toInt_trip (n : ℕ) (hn : n < 32) : (BitVec.ofNat 32 n).toInt = (n : ℤ) := by
  interval_cases n <;> rfl

section
variable (N : Net) (n : ℕ) (hn : n < 32) (V : Valuation τ sig (Elt Ideal)) (H : Holds N n V)
include hn H

/-- The trip's input. -/
theorem x_row (b : Fin 64) (y : Fin 512) : (res_main_while0b_v6 (F := Ideal) V : FVec Ideal S64x512 .f32) (ix2 b y) = N.x ⟨n, hn⟩ b y := by
  have hs : S32x64x512.Slices ![n, 0, 0] S1x64x512 := ⟨rfl, fun a => by
    fin_cases a
    · show n + 1 ≤ 32; omega
    · show 0 + 64 ≤ 64; omega
    · show 0 + 512 ≤ 512; omega⟩
  unfold res_main_while0b_v6
  rw [H.ctr, Host.dynamicSlice_eq_extractStridedSlice S1x64x512 _ _ ![n, 0, 0] _ hs (fun a => by
    fin_cases a
    · exact toInt_trip n hn
    · rfl
    · rfl)]
  pointwise
  exact H.x _ _ _

/-- The trip's tokens. -/
theorem tok_row (b : Fin 64) : ∃ w : BitVec 32, (oddTok w ↔ N.odd ⟨n, hn⟩ b) ∧
    (res_main_while0b_v88 (F := Ideal) V : IVec S64 32) (ix1 b) = IntOp.remsi .host w 2#32 := by
  have hs : S32x64.Slices ![n, 0] S1x64 := ⟨rfl, fun a => by
    fin_cases a
    · show n + 1 ≤ 32; omega
    · show 0 + 64 ≤ 64; omega⟩
  refine ⟨_, H.tok ⟨n, hn⟩ b, ?_⟩
  unfold res_main_while0b_v88
  rw [H.ctr, Host.dynamicSlice_eq_extractStridedSlice S1x64 _ _ ![n, 0] _ hs (fun a => by
    fin_cases a
    · exact toInt_trip n hn
    · rfl)]
  pointwise [res_main_while0b_v86]
  rfl

/-- Cell 0's four gates before their nonlinearities. -/
theorem z0_apply (b : Fin 64) (g : Fin 2048) : (res_main_while0b_v17 (F := Ideal) V : FVec Ideal S64x2048 .f32) (ix2 b g) =
    gate N.W0 N.U0 N.p0 N.q0 (N.x ⟨n, hn⟩ b) ((N.traj n).1 b) g := by
  pointwise [res_main_while0b_v17]
  unfold gate
  simp only [x_row N n hn V H, H.W0, H.p0, H.U0, H.q0, H.h]

/-- Cell 1's four gates before their nonlinearities. -/
theorem z1_apply (b : Fin 64) (g : Fin 2048) : (res_main_while0b_v56 (F := Ideal) V : FVec Ideal S64x2048 .f32) (ix2 b g) =
    gate N.W1 N.U1 N.p1 N.q1 (N.x ⟨n, hn⟩ b) ((N.traj n).1 b) g := by
  pointwise [res_main_while0b_v56]
  unfold gate
  simp only [x_row N n hn V H, H.W1, H.p1, H.U1, H.q1, H.h]

/-- Cell 0's next cell state. -/
theorem c0_apply (b : Fin 64) (j : Fin 512) : (res_main_while0b_v43 (F := Ideal) V : FVec Ideal S64x512 .f32) (ix2 b j) =
    newC (gate N.W0 N.U0 N.p0 N.q0 (N.x ⟨n, hn⟩ b) ((N.traj n).1 b)) ((N.traj n).2 b j) j := by
  pointwise [res_main_while0b_v43]
  simp only [z0_apply N n hn V H, H.c]
  rfl

/-- Cell 1's next cell state. -/
theorem c1_apply (b : Fin 64) (j : Fin 512) : (res_main_while0b_v82 (F := Ideal) V : FVec Ideal S64x512 .f32) (ix2 b j) =
    newC (gate N.W1 N.U1 N.p1 N.q1 (N.x ⟨n, hn⟩ b) ((N.traj n).1 b)) ((N.traj n).2 b j) j := by
  pointwise [res_main_while0b_v82]
  simp only [z1_apply N n hn V H, H.c]
  rfl

/-- The mask bit is set exactly at the odd tokens. -/
theorem mask_apply (b : Fin 64) :
    (res_main_while0b_v102 (F := Ideal) V : IVec S64x1 1) (ix2 b (0 : Fin 1)) = 1#1 ↔ N.odd ⟨n, hn⟩ b := by
  obtain ⟨w, hw, e⟩ := tok_row N n hn V H b
  rw [← hw]
  pointwise [res_main_while0b_v102, res_main_while0b_v86]
  rw [e]
  unfold oddTok
  rcases srem_two w with ⟨e, h⟩ | ⟨e, h⟩ | ⟨e, h⟩ <;>
    simp [IntOp.remsi, IntOp.SDivCorner, Scalar.select, Scalar.cmpi, IntOp.cmpi, IntOp.andi, IntOp.xori, IntOp.addi, e, h, (by decide : ¬ (0#1 = 1#1))]

/-- The trip's next hidden state. -/
theorem h_apply (b : Fin 64) (j : Fin 512) : (res_main_while0b_v103 (F := Ideal) V : FVec Ideal S64x512 .f32) (ix2 b j) =
    (N.traj (n + 1)).1 b j := by
  have hm := mask_apply N n hn V H b
  have ht : (⟨n % 32, Nat.mod_lt _ (by decide)⟩ : Fin 32) = ⟨n, hn⟩ := Fin.ext (Nat.mod_eq_of_lt hn)
  show _ = newH (N.z ⟨n % 32, _⟩ (N.traj n).1 b) ((N.traj n).2 b j) j
  rw [ht]
  pointwise [res_main_while0b_v103]
  simp only [z0_apply N n hn V H, z1_apply N n hn V H, c0_apply N n hn V H, c1_apply N n hn V H]
  unfold Net.z
  by_cases ho : N.odd ⟨n, hn⟩ b
  · rw [if_pos ho, hm.2 ho]; rfl
  · rw [if_neg ho]; exact (if_neg (fun h => ho (hm.1 h))).trans rfl

/-- The trip's next cell state. -/
theorem c_apply (b : Fin 64) (j : Fin 512) : (step_main_v4_12 (F := Ideal) V : FVec Ideal S64x512 .f32) (ix2 b j) =
    (N.traj (n + 1)).2 b j := by
  have hm := mask_apply N n hn V H b
  have ht : (⟨n % 32, Nat.mod_lt _ (by decide)⟩ : Fin 32) = ⟨n, hn⟩ := Fin.ext (Nat.mod_eq_of_lt hn)
  show _ = newC (N.z ⟨n % 32, _⟩ (N.traj n).1 b) ((N.traj n).2 b j) j
  rw [ht]
  unfold step_main_v4_12
  show select _ _ _ _ = _
  pointwise
  simp only [c0_apply N n hn V H, c1_apply N n hn V H]
  unfold Net.z
  by_cases ho : N.odd ⟨n, hn⟩ b
  · rw [if_pos ho, hm.2 ho]; rfl
  · rw [if_neg ho]; exact (if_neg (fun h => ho (hm.1 h))).trans rfl

/-- The trip writes its own row of the output and keeps the others. -/
theorem out_apply (k : Fin 32) (b : Fin 64) (j : Fin 512) :
    (step_main_v4_13 (F := Ideal) V : FVec Ideal S32x64x512 .f32) (ix3 k b j) =
    if k.val = n then (N.traj (n + 1)).1 b j else (V (Proc.devRef .tc main_v4_13) : FVec Ideal S32x64x512 .f32) (ix3 k b j) := by
  unfold step_main_v4_13
  rw [H.ctr]
  have hs : S32x64x512.Slices ![n, 0, 0] S1x64x512 := ⟨rfl, fun a => by
    fin_cases a
    · show n + 1 ≤ 32; omega
    · show 0 + 64 ≤ 64; omega
    · show 0 + 512 ≤ 512; omega⟩
  rw [Host.dynamicUpdateSlice_eq_updateSlice _ _ _ _ ![n, 0, 0] (fun a => by
    fin_cases a
    · show (min (max (BitVec.ofNat 32 n).toInt 0) ((32 - 1 : ℕ) : ℤ)).toNat = n
      rw [toInt_trip n hn]; omega
    · rfl
    · rfl) hs]
  show updateSlice _ _ _ _ _ = _
  unfold updateSlice
  split_ifs with hin hk hk
  · rw [← h_apply N n hn V H b j]
    pointwise
  · have := hin 0
    exact absurd (le_antisymm (Nat.lt_succ_iff.1 this.2) this.1) hk
  · refine absurd (fun a => ?_) hin
    fin_cases a
    · exact ⟨hk.ge, Nat.lt_succ_iff.2 hk.le⟩
    · exact ⟨Nat.zero_le _, by show b.val < 0 + 64; omega⟩
    · exact ⟨Nat.zero_le _, by show j.val < 0 + 512; omega⟩
  · rfl

/-- One trip is one step of the recurrence. -/
theorem holds_step : Holds N (n + 1) (STEP V) where
  tok := by rw [STEP_main_v4_0]; exact H.tok
  x := by rw [STEP_main_v4_1]; exact H.x
  W0 := by rw [STEP_main_v4_2]; exact H.W0
  p0 := by rw [STEP_main_v4_3]; exact H.p0
  U0 := by rw [STEP_main_v4_4]; exact H.U0
  q0 := by rw [STEP_main_v4_5]; exact H.q0
  W1 := by rw [STEP_main_v4_6]; exact H.W1
  p1 := by rw [STEP_main_v4_7]; exact H.p1
  U1 := by rw [STEP_main_v4_8]; exact H.U1
  q1 := by rw [STEP_main_v4_9]; exact H.q1
  ctr := by
    rw [STEP_main_v4_10]
    unfold step_main_v4_10
    rw [H.ctr]
    funext i
    show BitVec.ofNat 32 n + 1#32 = BitVec.ofNat 32 (n + 1)
    simp only [BitVec.ofNat_add]
  h := by rw [STEP_main_v4_11]; exact h_apply N n hn V H
  c := by rw [STEP_main_v4_12]; exact c_apply N n hn V H
  out := by
    intro k b j hk
    rw [STEP_main_v4_13, out_apply N n hn V H]
    split_ifs with e
    · rw [e]
    · exact H.out k b j (by omega)
end

end Cert.Lstm

end
-- ==== Proof.RefValue.lean ====
module

public import proofs.«01_k».proof.Proof.RefStep

@[expose] public section

/-! # What the reference computes

The loop's buffers at its entry, thirty-two trips, and the three results as the recurrence. -/

set_option maxRecDepth 65536

noncomputable section

namespace Cert.Lstm

open Idealize.ShloMosaic Idealize.ShloMosaic.TcCoe Idealize.ShloMosaic.StableHlo
open Cert.ReferenceIdeal Cert.ReferenceIdeal.Gen Cert.ReferenceIdeal.Value

/-- The recurrence's network as the reference's arguments give it. -/
def netR (m : (ℓ : Loc nD τ sig) → Buf (Elt Ideal) ℓ) (c : Dev nD) : Net where
  W0 g y := (m ((c : Thread nD τ).loc main_arg2) : FVec Ideal S2048x512 .f32) (ix2 g y)
  U0 g y := (m ((c : Thread nD τ).loc main_arg3) : FVec Ideal S2048x512 .f32) (ix2 g y)
  p0 g := (m ((c : Thread nD τ).loc main_arg4) : FVec Ideal S2048 .f32) (ix1 g)
  q0 g := (m ((c : Thread nD τ).loc main_arg5) : FVec Ideal S2048 .f32) (ix1 g)
  W1 g y := (m ((c : Thread nD τ).loc main_arg6) : FVec Ideal S2048x512 .f32) (ix2 g y)
  U1 g y := (m ((c : Thread nD τ).loc main_arg7) : FVec Ideal S2048x512 .f32) (ix2 g y)
  p1 g := (m ((c : Thread nD τ).loc main_arg8) : FVec Ideal S2048 .f32) (ix1 g)
  q1 g := (m ((c : Thread nD τ).loc main_arg9) : FVec Ideal S2048 .f32) (ix1 g)
  x k b y := (m ((c : Thread nD τ).loc main_arg1) : FVec Ideal S32x64x512 .f32) (ix3 k b y)
  odd k b := oddTok ((m ((c : Thread nD τ).loc main_arg0) : IVec S64x32 32) (ix2 b k))

section
variable (m : (ℓ : Loc nD τ sig) → Buf (Elt Ideal) ℓ) (c : Dev nD)

set_option maxHeartbeats 1000000 in
/-- At the loop's entry the buffers hold the arguments, the tokens turned round, and zero states. -/
theorem holds_entry : Holds (netR m c) 0 (entryContents preI m c) where
  tok := by
    simp only [entryContents, afterL_cons, afterL_nil]
    after_reads_simp
    intro k b
    have e : (transpose S32x64 [1, 0] (m ((c : Thread nD τ).loc main_arg0) : IVec S64x32 32) transposes_S64x32_S32x64_1_0) (ix2 k b) =
        (m ((c : Thread nD τ).loc main_arg0) : IVec S64x32 32) (ix2 b k) := by pointwise
    exact iff_of_eq (congrArg oddTok e)
  x := by
    simp only [entryContents, afterL_cons, afterL_nil]
    after_reads_simp
    intros; rfl
  W0 := by
    simp only [entryContents, afterL_cons, afterL_nil]
    after_reads_simp
    intros; rfl
  p0 := by
    simp only [entryContents, afterL_cons, afterL_nil]
    after_reads_simp
    intros; rfl
  U0 := by
    simp only [entryContents, afterL_cons, afterL_nil]
    after_reads_simp
    intros; rfl
  q0 := by
    simp only [entryContents, afterL_cons, afterL_nil]
    after_reads_simp
    intros; rfl
  W1 := by
    simp only [entryContents, afterL_cons, afterL_nil]
    after_reads_simp
    intros; rfl
  p1 := by
    simp only [entryContents, afterL_cons, afterL_nil]
    after_reads_simp
    intros; rfl
  U1 := by
    simp only [entryContents, afterL_cons, afterL_nil]
    after_reads_simp
    intros; rfl
  q1 := by
    simp only [entryContents, afterL_cons, afterL_nil]
    after_reads_simp
    intros; rfl
  ctr := ctr_entry m c
  h := by
    simp only [entryContents, afterL_cons, afterL_nil]
    after_reads_simp
    intro b j
    have e : (broadcastInDim S64x512 ![] bcast_S_S64x512 (constant S_ FTy.f32 0#32 : FVec Ideal S_ .f32)) (ix2 b j) = 0 := by pointwise
    exact e
  c := by
    simp only [entryContents, afterL_cons, afterL_nil]
    after_reads_simp
    intro b j
    have e : (broadcastInDim S64x512 ![] bcast_S_S64x512 (constant S_ FTy.f32 0#32 : FVec Ideal S_ .f32)) (ix2 b j) = 0 := by pointwise
    exact e
  out := fun k b j hk => absurd hk (Nat.not_lt_zero _)

/-- Before trip `n` the buffers hold the recurrence's states after `n` steps. -/
theorem holds_iter : ∀ n : ℕ, n ≤ 32 → Holds (netR m c) n (STEP^[n] (entryContents preI m c))
  | 0, _ => holds_entry m c
  | n + 1, h => by
    rw [Function.iterate_succ_apply']
    exact holds_step _ n h _ (holds_iter n (Nat.le_of_succ_le h))

end

end Cert.Lstm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KValue
public import proofs.«01_k».proof.Proof.RefValue
public import Idealize.ShloMosaic.Lib.Quiescent
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- Equal arguments give both programs the same network. -/
theorem net_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.Lstm.netR m' c = Cert.Lstm.netK m c := by
  unfold Cert.Lstm.netR Cert.Lstm.netK
  rw [h0, h1, h2, h3, h4, h5, h6, h7, h8, h9]

/-- The kernel and the reference end with equal results: both are the recurrence over the same network. -/
theorem algebraic : algebraic_KernelIdeal_ReferenceIdeal (hKernelIdeal := Cert.KernelIdeal.Gen.facts)
    (hReferenceIdeal := Cert.ReferenceIdeal.Gen.facts) := by
  intro m g m' g' _ hagree
  refine ⟨Cert.KernelIdeal.Value.G10 m, Cert.KernelIdeal.Value.G11 m, Cert.KernelIdeal.Value.G12 m,
    Cert.KernelIdeal.Value.run (F := Ideal) m g,
    (θ_run Cert.ReferenceIdeal.defs _ _).mono (fun r h c => ?_) (Cert.ReferenceIdeal.Value.run (F := Ideal) m' g')⟩
  obtain ⟨ho, hh, hc, hargs⟩ := h c
  obtain ⟨a0, a1, a2, a3, a4, a5, a6, a7, a8, a9⟩ := hagree c
  have e := net_eq m m' c a0 a1 a2 a3 a4 a5 a6 a7 a8 a9
  have H := Cert.Lstm.holds_iter m' c 32 le_rfl
  rw [e] at H
  refine ⟨ho.trans (funext fun i => ?_), hh.trans (funext fun i => ?_), hc.trans (funext fun i => ?_), hargs⟩
  · obtain ⟨n, b, j, rfl⟩ : ∃ (n : Fin 32) (b : Fin 64) (j : Fin 512), i = ix3 n b j := ⟨_, _, _, eq_ix3 i⟩
    exact (H.out n b j n.isLt).trans (Cert.Lstm.out_K m c n b j).symm
  · obtain ⟨b, j, rfl⟩ : ∃ (b : Fin 64) (j : Fin 512), i = ix2 b j := ⟨_, _, eq_ix2 i⟩
    exact (H.h b j).trans (Cert.Lstm.h_K m c b j).symm
  · obtain ⟨b, j, rfl⟩ : ∃ (b : Fin 64) (j : Fin 512), i = ix2 b j := ⟨_, _, eq_ix2 i⟩
    exact (H.c b j).trans (Cert.Lstm.c_K m c b j).symm

/-- The five claims. -/
theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => (θ_run Cert.ReferenceIdeal.defs _ _).mono
    (fun r h => ⟨fun c => (h c).2.2.2, Idealize.ShloMosaic.sem_eq_zero_of_no_sems (by decide) r.2⟩)
    (Cert.ReferenceIdeal.Value.run (F := Ideal) m ρ),
  trivial, algebraic⟩

end Cert.Proof

end
